-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_theta1_finite [hPre_theta1_finite : Cert.Pre_theta1_finite.Facts] (m : (ℓ : Loc Cert.KernelIdeal.nD Cert.KernelIdeal.τ Cert.KernelIdeal.sig) → Buf (Elt Ideal) ℓ) : Prop :=
  ∀ c : Dev Cert.KernelIdeal.nD,
    (Cert.Pre_theta1_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_theta1_finite [hPre_theta1_finite : Cert.Pre_theta1_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_theta1_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_theta1_finite [hKernelIdeal : Cert.KernelIdeal.Facts] [hPre_theta1_finite : Cert.Pre_theta1_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_theta1_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_theta1_finite [hReferenceIdeal : Cert.ReferenceIdeal.Facts] [hPre_theta1_finite : Cert.Pre_theta1_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_theta1_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_theta1_finite [hKernelIdeal : Cert.KernelIdeal.Facts] [hReferenceIdeal : Cert.ReferenceIdeal.Facts] [hPre_theta1_finite : Cert.Pre_theta1_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_theta1_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_theta1_finite : Cert.Pre_theta1_finite.Facts),
    quiescent_Kernel (hKernel := hKernel)
    ∧ quiescent_KernelIdeal (hKernelIdeal := hKernelIdeal)
    ∧ quiescent_KernelIdeal_pre_theta1_finite (hKernelIdeal := hKernelIdeal) (hPre_theta1_finite := hPre_theta1_finite)
    ∧ quiescent_ReferenceIdeal (hReferenceIdeal := hReferenceIdeal)
    ∧ quiescent_ReferenceIdeal_pre_theta1_finite (hReferenceIdeal := hReferenceIdeal) (hPre_theta1_finite := hPre_theta1_finite)
    ∧ preserves_Kernel_KernelIdeal
    ∧ algebraic_KernelIdeal_ReferenceIdeal_pre_theta1_finite (hKernelIdeal := hKernelIdeal) (hReferenceIdeal := hReferenceIdeal) (hPre_theta1_finite := hPre_theta1_finite)
-- ==== Pre_theta1_finite.lean ====
abbrev S16384x128 : Shape := ⟨2, ![16384, 128]⟩
abbrev S1x4x64 : Shape := ⟨3, ![1, 4, 64]⟩
abbrev S4x4x64 : Shape := ⟨3, ![4, 4, 64]⟩
abbrev S_ : Shape := ⟨0, ![]⟩

class Facts : Prop where
  bcast_S_S4x4x64 : S_.BroadcastsInDim S4x4x64 (![] : Fin 0 → Fin S4x4x64.rank)
  reducesTo_S4x4x64_S_d0_1_2 : S4x4x64.ReducesTo [0, 1, 2] S_
  h_S_ : 0 < S_.numel

variable [Facts]

def fn {F : FTy → Type} [FloatOps F] (main_arg0 : FVec F S16384x128 .f32) (main_arg1 : FVec F S1x4x64 .f32) (main_arg2 : FVec F S4x4x64 .f32) : IVec S_ 1 :=
  let main_v0 : FVec F S4x4x64 .f32 := Host.absf main_arg2
  let main_cst : FVec F S_ .f32 := constant S_ .f32 0x7F800000#32
  let main_v1 : FVec F S4x4x64 .f32 := broadcastInDim S4x4x64 ![] bcast_S_S4x4x64 main_cst
  let main_v2 : IVec S4x4x64 1 := cmpf .olt main_v0 main_v1
  let main_c : IVec S_ 1 := constantI S_ 1 1#1
  let main_v3 : IVec S_ 1 := (fun x v => Host.reduce IntOp.andi x v reducesTo_S4x4x64_S_d0_1_2 h_S_) main_v2 main_c
  main_v3
-- ==== Kernel.lean ====
abbrev S16384x128 : Shape := ⟨2, ![16384, 128]⟩
abbrev S1x4x64 : Shape := ⟨3, ![1, 4, 64]⟩
abbrev S4x4x64 : Shape := ⟨3, ![4, 4, 64]⟩
abbrev S64x64 : Shape := ⟨2, ![64, 64]⟩
abbrev S128x128 : Shape := ⟨2, ![128, 128]⟩
abbrev S128x64 : Shape := ⟨2, ![128, 64]⟩
abbrev S4x64 : Shape := ⟨2, ![4, 64]⟩
abbrev S16x64 : Shape := ⟨2, ![16, 64]⟩
abbrev S20x64 : Shape := ⟨2, ![20, 64]⟩
abbrev S64x20 : Shape := ⟨2, ![64, 20]⟩
abbrev S_ : Shape := ⟨0, ![]⟩
abbrev S128x44 : Shape := ⟨2, ![128, 44]⟩
abbrev S64x84 : Shape := ⟨2, ![64, 84]⟩
abbrev S128x84 : Shape := ⟨2, ![128, 84]⟩
abbrev S128x256 : Shape := ⟨2, ![128, 256]⟩
abbrev S16384x64 : Shape := ⟨2, ![16384, 64]⟩
abbrev S4096x128 : Shape := ⟨2, ![4096, 128]⟩
abbrev S4096x64 : Shape := ⟨2, ![4096, 64]⟩
abbrev S4096x256 : Shape := ⟨2, ![4096, 256]⟩
abbrev S4096 : Shape := ⟨1, ![4096]⟩
abbrev S4096x1 : Shape := ⟨2, ![4096, 1]⟩

abbrev nBuf : Space → Nat
  | .hbm => 34
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S1x4x64, .f32⟩
  | .hbm, ⟨2, _⟩ => ⟨S4x4x64, .f32⟩
  | .hbm, ⟨3, _⟩ => ⟨S64x64, .f32⟩
  | .hbm, ⟨4, _⟩ => ⟨S64x64, .f32⟩
  | .hbm, ⟨5, _⟩ => ⟨S128x128, .f32⟩
  | .hbm, ⟨6, _⟩ => ⟨S128x64, .f32⟩
  | .hbm, ⟨7, _⟩ => ⟨S128x64, .f32⟩
  | .hbm, ⟨8, _⟩ => ⟨S4x64, .f32⟩
  | .hbm, ⟨9, _⟩ => ⟨S16x64, .f32⟩
  | .hbm, ⟨10, _⟩ => ⟨S20x64, .f32⟩
  | .hbm, ⟨11, _⟩ => ⟨S64x20, .f32⟩
  | .hbm, ⟨12, _⟩ => ⟨S64x20, .f32⟩
  | .hbm, ⟨13, _⟩ => ⟨S_, .f32⟩
  | .hbm, ⟨14, _⟩ => ⟨S64x20, .f32⟩
  | .hbm, ⟨15, _⟩ => ⟨S64x20, .f32⟩
  | .hbm, ⟨16, _⟩ => ⟨S64x20, .f32⟩
  | .hbm, ⟨17, _⟩ => ⟨S_, .f32⟩
  | .hbm, ⟨18, _⟩ => ⟨S64x20, .f32⟩
  | .hbm, ⟨19, _⟩ => ⟨S64x20, .f32⟩
  | .hbm, ⟨20, _⟩ => ⟨S_, .f32⟩
  | .hbm, ⟨21, _⟩ => ⟨S128x44, .f32⟩
  | .hbm, ⟨22, _⟩ => ⟨S64x84, .f32⟩
  | .hbm, ⟨23, _⟩ => ⟨S64x64, .f32⟩
  | .hbm, ⟨24, _⟩ => ⟨S64x20, .f32⟩
  | .hbm, ⟨25, _⟩ => ⟨S64x84, .f32⟩
  | .hbm, ⟨26, _⟩ => ⟨S128x84, .f32⟩
  | .hbm, ⟨27, _⟩ => ⟨S64x84, .f32⟩
  | .hbm, ⟨28, _⟩ => ⟨S64x84, .f32⟩
  | .hbm, ⟨29, _⟩ => ⟨S128x84, .f32⟩
  | .hbm, ⟨30, _⟩ => ⟨S128x128, .f32⟩
  | .hbm, ⟨31, _⟩ => ⟨S128x128, .f32⟩
  | .hbm, ⟨32, _⟩ => ⟨S128x256, .f32⟩
  | .hbm, ⟨33, _⟩ => ⟨S16384x64, .f32⟩
  | .local _ .vmem, ⟨0, _⟩ => ⟨S4096x128, .f32⟩
  | .local _ .vmem, ⟨1, _⟩ => ⟨S4096x128, .f32⟩
  | .local _ .vmem, ⟨2, _⟩ => ⟨S128x256, .f32⟩
  | .local _ .vmem, ⟨3, _⟩ => ⟨S128x128, .f32⟩
  | .local _ .vmem, ⟨4, _⟩ => ⟨S128x64, .f32⟩
  | .local _ .vmem, ⟨5, _⟩ => ⟨S128x64, .f32⟩
  | .local _ .vmem, ⟨6, _⟩ => ⟨S4096x64, .f32⟩
  | .local _ .vmem, ⟨7, _⟩ => ⟨S4096x64, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_5 : Ref sig .tc := ⟨.hbm, 17, rfl⟩
abbrev main_v8 : Ref sig .tc := ⟨.hbm, 18, rfl⟩
abbrev main_v9 : Ref sig .tc := ⟨.hbm, 19, rfl⟩
abbrev main_cst_6 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x128 : Shape := ⟨2, ![16384, 128]⟩
abbrev S1x4x64 : Shape := ⟨3, ![1, 4, 64]⟩
abbrev S4x4x64 : Shape := ⟨3, ![4, 4, 64]⟩
abbrev S64x64 : Shape := ⟨2, ![64, 64]⟩
abbrev S_ : Shape := ⟨0, ![]⟩
abbrev S1x4x128 : Shape := ⟨3, ![1, 4, 128]⟩
abbrev S1x8x128 : Shape := ⟨3, ![1, 8, 128]⟩
abbrev S16384x1x8 : Shape := ⟨3, ![16384, 1, 8]⟩
abbrev S16384x1x4 : Shape := ⟨3, ![16384, 1, 4]⟩
abbrev S16384x1 : Shape := ⟨2, ![16384, 1]⟩
abbrev S16384x1x1 : Shape := ⟨3, ![16384, 1, 1]⟩
abbrev S16384x4 : Shape := ⟨2, ![16384, 4]⟩
abbrev S4x4x128 : Shape := ⟨3, ![4, 4, 128]⟩
abbrev S4x8x128 : Shape := ⟨3, ![4, 8, 128]⟩
abbrev S16384x4x8 : Shape := ⟨3, ![16384, 4, 8]⟩
abbrev S16384x4x4 : Shape := ⟨3, ![16384, 4, 4]⟩
abbrev S16384x4x1 : Shape := ⟨3, ![16384, 4, 1]⟩
abbrev S16384x16 : Shape := ⟨2, ![16384, 16]⟩
abbrev S16384x64 : Shape := ⟨2, ![16384, 64]⟩
abbrev S16384x16x4 : Shape := ⟨3, ![16384, 16, 4]⟩
abbrev S16384x16x1 : Shape := ⟨3, ![16384, 16, 1]⟩

abbrev nBuf : Space → Nat
  | .hbm => 104
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x4x64, .f32⟩
  | .hbm, ⟨2, _⟩ => ⟨S4x4x64, .f32⟩
  | .hbm, ⟨3, _⟩ => ⟨S64x64, .f32⟩
  | .hbm, ⟨4, _⟩ => ⟨S64x64, .f32⟩
  | .hbm, ⟨5, _⟩ => ⟨S1x4x64, .f32⟩
  | .hbm, ⟨6, _⟩ => ⟨S_, .f32⟩
  | .hbm, ⟨7, _⟩ => ⟨S1x4x64, .f32⟩
  | .hbm, ⟨8, _⟩ => ⟨S1x4x64, .f32⟩
  | .hbm, ⟨9, _⟩ => ⟨S1x4x64, .f32⟩
  | .hbm, ⟨10, _⟩ => ⟨S_, .f32⟩
  | .hbm, ⟨11, _⟩ => ⟨S1x4x64, .f32⟩
  | .hbm, ⟨12, _⟩ => ⟨S1x4x64, .f32⟩
  | .hbm, ⟨13, _⟩ => ⟨S1x4x64, .f32⟩
  | .hbm, ⟨14, _⟩ => ⟨S1x4x128, .f32⟩
  | .hbm, ⟨15, _⟩ => ⟨S1x4x128, .f32⟩
  | .hbm, ⟨16, _⟩ => ⟨S1x8x128, .f32⟩
  | .hbm, ⟨17, _⟩ => ⟨S16384x1x8, .f32⟩
  | .hbm, ⟨18, _⟩ => ⟨S16384x1x4, .f32⟩
  | .hbm, ⟨19, _⟩ => ⟨S16384x1x4, .f32⟩
  | .hbm, ⟨20, _⟩ => ⟨S16384x1x4, .f32⟩
  | .hbm, ⟨21, _⟩ => ⟨S16384x1x4, .f32⟩
  | .hbm, ⟨22, _⟩ => ⟨S16384x1x4, .f32⟩
  | .hbm, ⟨23, _⟩ => ⟨S_, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1x1, .f32⟩
  | .hbm, ⟨29, _⟩ => ⟨S16384x1x4, .f32⟩
  | .hbm, ⟨30, _⟩ => ⟨S16384x1x4, .f32⟩
  | .hbm, ⟨31, _⟩ => ⟨S16384x1x4, .f32⟩
  | .hbm, ⟨32, _⟩ => ⟨S_, .f32⟩
  | .hbm, ⟨33, _⟩ => ⟨S16384x1, .f32⟩
  | .hbm, ⟨34, _⟩ => ⟨S16384x1x1, .f32⟩
  | .hbm, ⟨35, _⟩ => ⟨S16384x1x4, .f32⟩
  | .hbm, ⟨36, _⟩ => ⟨S16384x1x4, .f32⟩
  | .hbm, ⟨37, _⟩ => ⟨S16384x4, .f32⟩
  | .hbm, ⟨38, _⟩ => ⟨S4x4x64, .f32⟩
  | .hbm, ⟨39, _⟩ => ⟨S_, .f32⟩
  | .hbm, ⟨40, _⟩ => ⟨S4x4x64, .f32⟩
  | .hbm, ⟨41, _⟩ => ⟨S4x4x64, .f32⟩
  | .hbm, ⟨42, _⟩ => ⟨S4x4x64, .f32⟩
  | .hbm, ⟨43, _⟩ => ⟨S_, .f32⟩
  | .hbm, ⟨44, _⟩ => ⟨S4x4x64, .f32⟩
  | .hbm, ⟨45, _⟩ => ⟨S4x4x64, .f32⟩
  | .hbm, ⟨46, _⟩ => ⟨S4x4x64, .f32⟩
  | .hbm, ⟨47, _⟩ => ⟨S4x4x128, .f32⟩
  | .hbm, ⟨48, _⟩ => ⟨S4x4x128, .f32⟩
  | .hbm, ⟨49, _⟩ => ⟨S4x8x128, .f32⟩
  | .hbm, ⟨50, _⟩ => ⟨S16384x4x8, .f32⟩
  | .hbm, ⟨51, _⟩ => ⟨S16384x4x4, .f32⟩
  | .hbm, ⟨52, _⟩ => ⟨S16384x4x4, .f32⟩
  | .hbm, ⟨53, _⟩ => ⟨S16384x4x4, .f32⟩
  | .hbm, ⟨54, _⟩ => ⟨S16384x4x4, .f32⟩
  | .hbm, ⟨55, _⟩ => ⟨S16384x4x4, .f32⟩
  | .hbm, ⟨56, _⟩ => ⟨S_, .f32⟩
  | .hbm, ⟨57, _⟩ => ⟨S16384x4, .f32⟩
  | .hbm, ⟨58, _⟩ => ⟨S_, .f32⟩
  | .hbm, ⟨59, _⟩ => ⟨S16384x4, .f32⟩
  | .hbm, ⟨60, _⟩ => ⟨S16384x4, .f32⟩
  | .hbm, ⟨61, _⟩ => ⟨S16384x4x1, .f32⟩
  | .hbm, ⟨62, _⟩ => ⟨S16384x4x4, .f32⟩
  | .hbm, ⟨63, _⟩ => ⟨S16384x4x4, .f32⟩
  | .hbm, ⟨64, _⟩ => ⟨S16384x4x4, .f32⟩
  | .hbm, ⟨65, _⟩ => ⟨S_, .f32⟩
  | .hbm, ⟨66, _⟩ => ⟨S16384x4, .f32⟩
  | .hbm, ⟨67, _⟩ => ⟨S16384x4x1, .f32⟩
  | .hbm, ⟨68, _⟩ => ⟨S16384x4x4, .f32⟩
  | .hbm, ⟨69, _⟩ => ⟨S16384x4x4, .f32⟩
  | .hbm, ⟨70, _⟩ => ⟨S16384x4x1, .f32⟩
  | .hbm, ⟨71, _⟩ => ⟨S16384x4x4, .f32⟩
  | .hbm, ⟨72, _⟩ => ⟨S16384x4x4, .f32⟩
  | .hbm, ⟨73, _⟩ => ⟨S16384x16, .f32⟩
  | .hbm, ⟨74, _⟩ => ⟨S16384x64, .f32⟩
  | .hbm, ⟨75, _⟩ => ⟨S16384x64, .f32⟩
  | .hbm, ⟨76, _⟩ => ⟨S16384x64, .f32⟩
  | .hbm, ⟨77, _⟩ => ⟨S16384x64, .f32⟩
  | .hbm, ⟨78, _⟩ => ⟨S16384x64, .f32⟩
  | .hbm, ⟨79, _⟩ => ⟨S16384x64, .f32⟩
  | .hbm, ⟨80, _⟩ => ⟨S16384x64, .f32⟩
  | .hbm, ⟨81, _⟩ => ⟨S16384x64, .f32⟩
  | .hbm, ⟨82, _⟩ => ⟨S16384x64, .f32⟩
  | .hbm, ⟨83, _⟩ => ⟨S16384x64, .f32⟩
  | .hbm, ⟨84, _⟩ => ⟨S16384x64, .f32⟩
  | .hbm, ⟨85, _⟩ => ⟨S16384x16x4, .f32⟩
  | .hbm, ⟨86, _⟩ => ⟨S_, .f32⟩
  | .hbm, ⟨87, _⟩ => ⟨S16384x16, .f32⟩
  | .hbm, ⟨88, _⟩ => ⟨S_, .f32⟩
  | .hbm, ⟨89, _⟩ => ⟨S16384x16, .f32⟩
  | .hbm, ⟨90, _⟩ => ⟨S16384x16, .f32⟩
  | .hbm, ⟨91, _⟩ => ⟨S16384x16x1, .f32⟩
  | .hbm, ⟨92, _⟩ => ⟨S16384x16x4, .f32⟩
  | .hbm, ⟨93, _⟩ => ⟨S16384x16x4, .f32⟩
  | .hbm, ⟨94, _⟩ => ⟨S16384x16x4, .f32⟩
  | .hbm, ⟨95, _⟩ => ⟨S_, .f32⟩
  | .hbm, ⟨96, _⟩ => ⟨S16384x16, .f32⟩
  | .hbm, ⟨97, _⟩ => ⟨S16384x16x1, .f32⟩
  | .hbm, ⟨98, _⟩ => ⟨S16384x16x4, .f32⟩
  | .hbm, ⟨99, _⟩ => ⟨S16384x16x4, .f32⟩
  | .hbm, ⟨100, _⟩ => ⟨S16384x16x1, .f32⟩
  | .hbm, ⟨101, _⟩ => ⟨S16384x16x4, .f32⟩
  | .hbm, ⟨102, _⟩ => ⟨S16384x16x4, .f32⟩
  | .hbm, ⟨103, _⟩ => ⟨S16384x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_11 : Ref sig .tc := ⟨.hbm, 86, rfl⟩
abbrev main_v71 : Ref sig .tc := ⟨.hbm, 87, rfl⟩
abbrev main_cst_12 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_13 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩

abbrev nD : Nat := 1
abbrev τ : Topo := Topo.v7x

variable {F : FTy → Type} [FloatOps F]
-- ==== Proof.Extended.lean ====
/- Facts about sums and products of extended reals: a sum is infinite exactly when some summand is, and the square of
   an infinite value is `⊤`. Nothing here mentions a program. -/
module

public import Idealize.ShloMosaic.Lib.Pointwise

@[expose] public section

noncomputable section

namespace Cert.Beam

/-- The value is a real number, neither `⊤` nor `⊥`. -/
def Fin' (a : EReal) : Prop := a ≠ ⊤ ∧ a ≠ ⊥

theorem fin_coe (r : ℝ) : Fin' (r : EReal) := ⟨EReal.coe_ne_top r, EReal.coe_ne_bot r⟩

theorem Fin'.eq_coe {a : EReal} (h : Fin' a) : ∃ r : ℝ, a = r := ⟨a.toReal, (EReal.coe_toReal h.1 h.2).symm⟩

/-- A sum of two is real exactly when both are. -/
theorem fin_add (a b : EReal) : Fin' (a + b) ↔ Fin' a ∧ Fin' b := by
  unfold Fin'
  induction a <;> induction b <;> simp [← EReal.coe_add]

/-- A finite sum is real exactly when every summand is. -/
theorem fin_sum {ι : Type*} (s : Finset ι) (f : ι → EReal) : Fin' (∑ i ∈ s, f i) ↔ ∀ i ∈ s, Fin' (f i) := by
  classical
  induction s using Finset.induction_on with
  | empty => simpa using fin_coe 0
  | insert a s ha ih => rw [Finset.sum_insert ha, fin_add, ih]; simp

/-- An infinite value times a nonzero one is infinite. -/
theorem not_fin_mul {a b : EReal} (ha : ¬ Fin' a) (hb : b ≠ 0) : ¬ Fin' (a * b) := by
  unfold Fin' at *
  induction a with
  | coe r => exact absurd ⟨EReal.coe_ne_top r, EReal.coe_ne_bot r⟩ ha
  | top => rcases lt_or_gt_of_ne hb with h | h
           · simp [EReal.top_mul_of_neg h]
           · simp [EReal.top_mul_of_pos h]
  | bot => rcases lt_or_gt_of_ne hb with h | h
           · simp [EReal.bot_mul_of_neg h]
           · simp [EReal.bot_mul_of_pos h]

/-- A product of reals is real. -/
theorem fin_mul {a b : EReal} (ha : Fin' a) (hb : Fin' b) : Fin' (a * b) := by
  obtain ⟨r, rfl⟩ := ha.eq_coe
  obtain ⟨s, rfl⟩ := hb.eq_coe
  rw [← EReal.coe_mul]; exact fin_coe _

theorem fin_neg {a : EReal} : Fin' (-a) ↔ Fin' a := by
  unfold Fin'
  induction a <;> simp [← EReal.coe_neg]

/-- The square of an infinite value is `⊤`. -/
theorem sq_top {a : EReal} (h : ¬ Fin' a) : a * a = ⊤ := by
  unfold Fin' at h
  induction a with
  | coe r => exact absurd ⟨EReal.coe_ne_top r, EReal.coe_ne_bot r⟩ h
  | top => simp
  | bot => simp

/-- No square is `⊥`. -/
theorem sq_ne_bot (a : EReal) : a * a ≠ ⊥ := by
  induction a with
  | coe r => rw [← EReal.coe_mul]; exact EReal.coe_ne_bot _
  | top => simp
  | bot => simp

/-- A sum of two squares is `⊤` as soon as one of the two values is infinite. -/
theorem power_top {a b : EReal} (h : ¬ (Fin' a ∧ Fin' b)) : a * a + b * b = ⊤ := by
  by_cases ha : Fin' a
  · rw [sq_top fun hb => h ⟨ha, hb⟩, EReal.add_top_of_ne_bot (sq_ne_bot a)]
  · rw [sq_top ha, EReal.top_add_of_ne_bot (sq_ne_bot b)]

/-- A sum of two squares of real values is real. -/
theorem power_fin {a b : EReal} (ha : Fin' a) (hb : Fin' b) : Fin' (a * a + b * b) := by
  obtain ⟨r, rfl⟩ := ha.eq_coe
  obtain ⟨s, rfl⟩ := hb.eq_coe
  rw [← EReal.coe_mul, ← EReal.coe_mul, ← EReal.coe_add]
  exact fin_coe _

end Cert.Beam

end
-- ==== Proof.Softmax.lean ====
/- The softmax over a group of four values, as both programs spell it, and the reason one maximum over the whole row
   serves every group: subtracting another real before the exponential divides out, and a group that holds `⊤` has
   no softmax, whichever maximum is subtracted. -/
module

public import proofs.«01_k».proof.Proof.Extended

@[expose] public section

noncomputable section

namespace Cert.Beam

open Idealize.ShloMosaic

/-- The largest of the four values, and `⊥` if there were none. -/
def top4 (p : Nat → EReal) : EReal := Finset.univ.fold max ⊥ fun k : Fin 4 => p k

/-- Entry `r` of the softmax of the four values `p 0 … p 3`. -/
def soft (p : Nat → EReal) (r : Nat) : EReal :=
  Ideal.div (Ideal.exp (p r - top4 p)) (∑ k : Fin 4, Ideal.exp (p k - top4 p))

/-- The maximum of a nonempty family of real values is real. -/
theorem fold_max_fin {n : Nat} (p : Fin (n + 1) → EReal) (h : ∀ k, Fin' (p k)) :
    Fin' (Finset.univ.fold max ⊥ p) := by
  have e : Finset.univ.fold max ⊥ p = Finset.univ.sup p := by
    rw [Finset.sup_def, Finset.fold]; rfl
  rw [e]
  obtain ⟨i, -, hi⟩ := Finset.exists_mem_eq_sup (Finset.univ : Finset (Fin (n + 1))) ⟨0, Finset.mem_univ _⟩ p
  rw [hi]; exact h i

/-- The maximum of a family holding `⊤` is `⊤`. -/
theorem fold_max_top {n : Nat} (p : Fin n → EReal) (i : Fin n) (h : p i = ⊤) :
    Finset.univ.fold max ⊥ p = ⊤ := by
  have e : Finset.univ.fold max ⊥ p = Finset.univ.sup p := by
    rw [Finset.sup_def, Finset.fold]; rfl
  rw [e, eq_top_iff, ← h]
  exact Finset.le_sup (Finset.mem_univ i)

/-- One quotient of exponentials of real values, whatever real `a` is subtracted first. -/
theorem ratio_shift (q : Fin 4 → ℝ) (x a : ℝ) :
    Ideal.div (Ideal.exp ((x : EReal) - a)) (∑ k : Fin 4, Ideal.exp ((q k : EReal) - a))
      = ((Real.exp x / ∑ k : Fin 4, Real.exp (q k) : ℝ) : EReal) := by
  have e : ∀ y : ℝ, Ideal.exp ((y : EReal) - a) = ((Real.exp (y - a) : ℝ) : EReal) := by
    intro y; rw [← EReal.coe_sub]; rfl
  have hs : (∑ k : Fin 4, Ideal.exp ((q k : EReal) - a)) = ((∑ k : Fin 4, Real.exp (q k - a) : ℝ) : EReal) := by
    simp only [e, Fin.sum_univ_four, EReal.coe_add]
  have hpos : 0 < ∑ k : Fin 4, Real.exp (q k - a) := Finset.sum_pos (fun k _ => Real.exp_pos _) ⟨0, Finset.mem_univ _⟩
  rw [hs, e, Ideal.div, if_neg (by simpa using hpos.ne'), ← EReal.coe_inv, ← EReal.coe_mul, ← div_eq_mul_inv]
  congr 1
  simp only [Real.exp_sub, ← Finset.sum_div]
  field_simp

/-- THE ROW'S MAXIMUM SERVES EVERY GROUP. Four powers of a row, divided with the maximum `m` of the whole row subtracted,
    give the softmax of the four with their own maximum: either everything is real, or the powers and `m` are `⊤`. -/
theorem soft_row (p : Nat → EReal) (m : EReal) (r : Nat) (hr : r < 4)
    (h : ((∀ k : Fin 4, Fin' (p k)) ∧ Fin' m) ∨ ((∀ k : Fin 4, p k = ⊤) ∧ m = ⊤)) :
    Ideal.div (Ideal.exp (p r - m)) (∑ k : Fin 4, Ideal.exp (p k - m)) = soft p r := by
  rcases h with ⟨hp, hm⟩ | ⟨hp, rfl⟩
  · choose q hq using fun k => (hp k).eq_coe
    obtain ⟨a, rfl⟩ := hm.eq_coe
    obtain ⟨b, hb⟩ := (fold_max_fin (fun k : Fin 4 => p k) hp).eq_coe
    have hb' : top4 p = (b : EReal) := hb
    have hr' : p r = (q ⟨r, hr⟩ : EReal) := hq ⟨r, hr⟩
    rw [soft, hb', hr']
    simp only [hq]
    rw [ratio_shift q _ a, ratio_shift q _ b]
  · have : top4 p = ⊤ := fold_max_top (fun k : Fin 4 => p k) 0 (hp 0)
    rw [soft, this]

/-- Subtracting `⊤` leaves an exponential of zero. -/
theorem exp_sub_top (a : EReal) : Ideal.exp (a - ⊤) = 0 := by
  rw [sub_eq_add_neg, EReal.neg_top, EReal.add_bot]; rfl

/-- Zero over zero, as the programs' division has it. -/
theorem zero_over_zero : Ideal.div 0 0 = ⊥ := by simp [Ideal.div]

/-- A group holding `⊤` has no softmax: every entry is `⊥`. -/
theorem soft_bot {p : Nat → EReal} {k : Nat} (hk : k < 4) (h : p k = ⊤) (r : Nat) : soft p r = ⊥ := by
  have e : top4 p = ⊤ := fold_max_top (fun k : Fin 4 => p k) ⟨k, hk⟩ h
  simp only [soft, e, exp_sub_top, Finset.sum_const_zero, zero_over_zero]

/-- The softmax of four reals is positive. -/
theorem soft_pos {p : Nat → EReal} (h : ∀ k : Fin 4, Fin' (p k)) {r : Nat} (hr : r < 4) : 0 < soft p r := by
  choose q hq using fun k => (h k).eq_coe
  obtain ⟨b, hb⟩ := (fold_max_fin (fun k : Fin 4 => p k) h).eq_coe
  have hb' : top4 p = (b : EReal) := hb
  have hr' : p r = (q ⟨r, hr⟩ : EReal) := hq ⟨r, hr⟩
  rw [soft, hb', hr']
  simp only [hq]
  rw [ratio_shift q _ b]
  exact EReal.coe_pos.2 (div_pos (Real.exp_pos _) (Finset.sum_pos (fun k _ => Real.exp_pos _) ⟨0, Finset.mem_univ _⟩))

end Cert.Beam

end
-- ==== Proof.Row.lean ====
/- One row of the kernel as mathematics: 128 powers, the row's maximum, the exponentials divided by their group's sum taken
   with a matrix of zeros and ones, and the product of a root, a middle and a leaf entry picked out with two more such
   matrices. The result is the product of three softmaxes of four. -/
module

public import proofs.«01_k».proof.Proof.Softmax

@[expose] public section

noncomputable section

namespace Cert.Beam

open Idealize.ShloMosaic

/-- Beam `j`'s probability from the powers of the tree's 84 beams: the leaves are beams 0 to 63, the root's four beams
    start at 64, and the four beams of middle node `n` at `68 + 4 n`. -/
def probability (p : Nat → EReal) (j : Nat) : EReal :=
  soft (fun k => p (64 + k)) (j / 16) * soft (fun k => p (68 + 4 * (j / 16) + k)) (j / 4 % 4)
    * soft (fun k => p (4 * (j / 4) + k)) (j % 4)

/-- The row's largest power over all 128 columns. -/
def rowTop (p : Nat → EReal) : EReal := Finset.univ.fold max ⊥ fun k : Fin 128 => p k

/-- The kernel's quotient at column `j`, the group sum taken with the weights `g`. -/
def ratio (p : Nat → EReal) (g : Nat → Nat → EReal) (j : Nat) : EReal :=
  Ideal.div (Ideal.exp (p j - rowTop p)) (∑ k : Fin 128, Ideal.exp (p k - rowTop p) * g k j)

/-- Summing 128 values against the indicator of a group of four leaves the group's sum. -/
theorem sum_group (f : Nat → EReal) (j : Nat) (hj : j < 128) :
    ∑ k : Fin 128, f k * (if (k : Nat) / 4 = j / 4 then 1 else 0) = ∑ k : Fin 4, f (4 * (j / 4) + k) := by
  simp only [mul_ite, mul_one, mul_zero]
  rw [← (finProdFinEquiv : Fin 32 × Fin 4 ≃ Fin 128).sum_comp, Fintype.sum_prod_type,
    Finset.sum_eq_single (⟨j / 4, by omega⟩ : Fin 32)]
  · refine Finset.sum_congr rfl fun r _ => ?_
    rw [if_pos (by simp [finProdFinEquiv]; omega)]
    congr 1
    simp [finProdFinEquiv]
    omega
  · intro g _ hg
    refine Finset.sum_eq_zero fun r _ => if_neg fun h => hg (Fin.ext ?_)
    simp [finProdFinEquiv] at h
    simp
    omega
  · exact fun h => absurd (Finset.mem_univ _) h

/-- Summing 128 values against a one-hot column picks one. -/
theorem sum_pick (f : Nat → EReal) (i : Nat) (hi : i < 128) :
    ∑ k : Fin 128, f k * (if (k : Nat) = i then 1 else 0) = f i := by
  rw [Finset.sum_eq_single (⟨i, hi⟩ : Fin 128)]
  · simp
  · intro k _ hk
    rw [if_neg fun h => hk (Fin.ext h), mul_zero]
  · exact fun h => absurd (Finset.mem_univ _) h

/-- The kernel's quotient at a column of the tree is its group's softmax. -/
theorem ratio_eq (p : Nat → EReal) (g : Nat → Nat → EReal)
    (hg : ∀ k < 128, ∀ j < 84, g k j = if k / 4 = j / 4 then 1 else 0)
    (hp : (∀ k < 128, Fin' (p k)) ∨ ∀ k < 84, p k = ⊤) (j : Nat) (hj : j < 84) :
    ratio p g j = soft (fun k => p (4 * (j / 4) + k)) (j % 4) := by
  have hs : (∑ k : Fin 128, Ideal.exp (p k - rowTop p) * g k j)
      = ∑ k : Fin 4, Ideal.exp (p (4 * (j / 4) + k) - rowTop p) := by
    rw [← sum_group (fun k => Ideal.exp (p k - rowTop p)) j (by omega)]
    exact Finset.sum_congr rfl fun k _ => by rw [hg k k.2 j hj]
  rw [ratio, hs, ← soft_row _ (rowTop p) (j % 4) (Nat.mod_lt _ (by norm_num))]
  · rw [Nat.div_add_mod]
  · rcases hp with h | h
    · exact .inl ⟨fun k => h _ (by omega), fold_max_fin (fun k : Fin 128 => p k) fun k => h k k.2⟩
    · exact .inr ⟨fun k => h _ (by omega), fold_max_top (fun k : Fin 128 => p k) ⟨0, by norm_num⟩ (h 0 (by norm_num))⟩

/-- A row holding `⊤` in any column has every quotient `⊥`. -/
theorem ratio_bot {p : Nat → EReal} (g : Nat → Nat → EReal) {k : Nat} (hk : k < 128) (h : p k = ⊤) (j : Nat) :
    ratio p g j = ⊥ := by
  have e : rowTop p = ⊤ := fold_max_top (fun k : Fin 128 => p k) ⟨k, hk⟩ h
  simp only [ratio, e, exp_sub_top, zero_mul, Finset.sum_const_zero, zero_over_zero]

/-- A root group holding `⊤` leaves every probability `⊥` when the other groups' powers are real. -/
theorem probability_bot {p : Nat → EReal} {r : Nat} (hr : r < 4) (h : p (64 + r) = ⊤)
    (hf : ∀ k < 84, k < 64 ∨ 68 ≤ k → Fin' (p k)) (j : Nat) (hj : j < 64) : probability p j = ⊥ := by
  rw [probability, soft_bot (p := fun k => p (64 + k)) hr h,
    EReal.bot_mul_of_pos (soft_pos (p := fun k => p (68 + 4 * (j / 16) + k)) (fun k => hf _ (by omega) (by omega))
      (Nat.mod_lt _ (by norm_num))),
    EReal.bot_mul_of_pos (soft_pos (p := fun k => p (4 * (j / 4) + k)) (fun k => hf _ (by omega) (by omega))
      (Nat.mod_lt _ (by norm_num)))]

/-- ONE ROW. The kernel's three factors at output column `j` multiply to the tree's probability:
    when every power is real, when every power is `⊤`, and when `⊤` is among the root's powers alone. -/
theorem row_eq (p : Nat → EReal) (g s0 s1 : Nat → Nat → EReal)
    (hg : ∀ k < 128, ∀ j < 84, g k j = if k / 4 = j / 4 then 1 else 0)
    (h0 : ∀ k < 128, ∀ j < 64, s0 k j = if k = 64 + j / 16 then 1 else 0)
    (h1 : ∀ k < 128, ∀ j < 64, s1 k j = if k = 68 + j / 4 then 1 else 0)
    (hp : ((∀ k < 128, Fin' (p k)) ∨ ∀ k < 84, p k = ⊤)
      ∨ (∃ r < 4, p (64 + r) = ⊤) ∧ ∀ k < 84, k < 64 ∨ 68 ≤ k → Fin' (p k)) (j : Nat) (hj : j < 64) :
    (∑ k : Fin 128, ratio p g k * s0 k j) * (∑ k : Fin 128, ratio p g k * s1 k j) * ratio p g j = probability p j := by
  have e0 : (∑ k : Fin 128, ratio p g k * s0 k j) = ratio p g (64 + j / 16) := by
    rw [← sum_pick (ratio p g) (64 + j / 16) (by omega)]
    exact Finset.sum_congr rfl fun k _ => by rw [h0 k k.2 j hj]
  have e1 : (∑ k : Fin 128, ratio p g k * s1 k j) = ratio p g (68 + j / 4) := by
    rw [← sum_pick (ratio p g) (68 + j / 4) (by omega)]
    exact Finset.sum_congr rfl fun k _ => by rw [h1 k k.2 j hj]
  rw [e0, e1]
  rcases hp with hp | ⟨⟨r, hr, ht⟩, hf⟩
  swap
  · rw [ratio_bot g (by omega) ht, ratio_bot g (by omega) ht, ratio_bot g (by omega) ht, probability_bot hr ht hf j hj,
      EReal.bot_mul_bot, EReal.top_mul_bot]
  rw [ratio_eq p g hg hp _ (by omega), ratio_eq p g hg hp _ (by omega), ratio_eq p g hg hp _ (by omega),
    probability, show 4 * ((64 + j / 16) / 4) = 64 by omega, show (64 + j / 16) % 4 = j / 16 by omega,
    show 4 * ((68 + j / 4) / 4) = 68 + 4 * (j / 16) by omega, show (68 + j / 4) % 4 = j / 4 % 4 by omega]

end Cert.Beam

end
-- ==== Proof.Power.lean ====
/- The power of one beam for one row of samples: the row's first half is the real parts, its second half the imaginary
   parts, the beam's weights are a pair of values per antenna. When the row and the weights are real the power is; when the
   row holds an infinite sample every beam that weighs that sample has power `⊤`. -/
module

public import proofs.«01_k».proof.Proof.Extended

@[expose] public section

noncomputable section

namespace Cert.Beam

/-- Position of antenna `a`'s real part in a row. -/
abbrev lo (a : Fin 64) : Fin 128 := ⟨a, by omega⟩
/-- Position of antenna `a`'s imaginary part in a row. -/
abbrev hi (a : Fin 64) : Fin 128 := ⟨64 + a, by omega⟩

/-- Real part of the beam `(c, s)` on the row `x`. -/
def beamRe (x : Fin 128 → EReal) (c s : Fin 64 → EReal) : EReal :=
  ∑ a, x (lo a) * c a + ∑ a, x (hi a) * (-s a)

/-- Imaginary part of the beam `(c, s)` on the row `x`. -/
def beamIm (x : Fin 128 → EReal) (c s : Fin 64 → EReal) : EReal :=
  ∑ a, x (lo a) * s a + ∑ a, x (hi a) * c a

/-- The beam's power: the squared modulus. -/
def power (x : Fin 128 → EReal) (c s : Fin 64 → EReal) : EReal :=
  beamRe x c s * beamRe x c s + beamIm x c s * beamIm x c s

/-- Every row index is a real part's or an imaginary part's. -/
theorem lo_or_hi (d : Fin 128) : (∃ a, d = lo a) ∨ ∃ a, d = hi a := by
  by_cases h : d.val < 64
  · exact .inl ⟨⟨d, h⟩, rfl⟩
  · exact .inr ⟨⟨d - 64, by omega⟩, Fin.ext (by simp; omega)⟩

/-- A row of real samples has a real power under a beam of real weights. -/
theorem power_of_fin {x : Fin 128 → EReal} (h : ∀ d, Fin' (x d)) {c s : Fin 64 → EReal}
    (hw : ∀ a, Fin' (c a) ∧ Fin' (s a)) : Fin' (power x c s) := by
  refine power_fin ?_ ?_ <;> [rw [beamRe, fin_add]; rw [beamIm, fin_add]]
  · exact ⟨(fin_sum _ _).2 fun a _ => fin_mul (h _) (hw a).1, (fin_sum _ _).2 fun a _ => fin_mul (h _) (fin_neg.2 (hw a).2)⟩
  · exact ⟨(fin_sum _ _).2 fun a _ => fin_mul (h _) (hw a).2, (fin_sum _ _).2 fun a _ => fin_mul (h _) (hw a).1⟩

/-- A power is real or `⊤`. -/
theorem power_fin_or_top (x : Fin 128 → EReal) (c s : Fin 64 → EReal) : Fin' (power x c s) ∨ power x c s = ⊤ := by
  by_cases h : Fin' (beamRe x c s) ∧ Fin' (beamIm x c s)
  · exact .inl (power_fin h.1 h.2)
  · exact .inr (power_top h)

/-- A row holding an infinite sample has power `⊤` under every beam whose weights are a nonzero pair at every antenna. -/
theorem power_of_not_fin {x : Fin 128 → EReal} (h : ¬ ∀ d, Fin' (x d)) {c s : Fin 64 → EReal}
    (hw : ∀ a, c a ≠ 0 ∨ s a ≠ 0) : power x c s = ⊤ := by
  refine power_top fun hp => h fun d => ?_
  rw [beamRe, beamIm, fin_add, fin_add, fin_sum, fin_sum, fin_sum, fin_sum] at hp
  obtain ⟨⟨h1, h2⟩, h3, h4⟩ := hp
  by_contra hd
  rcases lo_or_hi d with ⟨a, rfl⟩ | ⟨a, rfl⟩
  · rcases hw a with hc | hs
    · exact not_fin_mul hd hc (h1 a (Finset.mem_univ a))
    · exact not_fin_mul hd hs (h3 a (Finset.mem_univ a))
  · rcases hw a with hc | hs
    · exact not_fin_mul hd hc (h4 a (Finset.mem_univ a))
    · exact not_fin_mul hd (fun hz => hs (EReal.neg_eq_zero_iff.1 hz)) (h2 a (Finset.mem_univ a))

/-- The power may be spelt with a difference of two sums for the real part: where the two spellings of the real part
    differ, both are infinite. -/
theorem power_sub (x : Fin 128 → EReal) (c s : Fin 64 → EReal) :
    (∑ a, x (lo a) * c a - ∑ a, x (hi a) * s a) * (∑ a, x (lo a) * c a - ∑ a, x (hi a) * s a)
      + beamIm x c s * beamIm x c s = power x c s := by
  have e : ∀ a, x (hi a) * (-s a) = -(x (hi a) * s a) := fun a => mul_neg _ _
  by_cases h : Fin' (∑ a, x (hi a) * s a)
  · have hs := (fin_sum _ _).1 h
    choose r hr using fun a => (hs a (Finset.mem_univ a)).eq_coe
    have : (∑ a, x (hi a) * (-s a)) = -∑ a, x (hi a) * s a := by
      simp only [e, hr]
      have k : ∀ f : Fin 64 → ℝ, (∑ a, (f a : EReal)) = ((∑ a, f a : ℝ) : EReal) := fun f => by
        induction (Finset.univ : Finset (Fin 64)) using Finset.induction_on with
        | empty => simp
        | insert a t ha ih => rw [Finset.sum_insert ha, Finset.sum_insert ha, ih, EReal.coe_add]
      rw [k r, ← EReal.coe_neg, ← Finset.sum_neg_distrib, ← k]
      exact Finset.sum_congr rfl fun a _ => (EReal.coe_neg _).symm
    rw [power, beamRe, this, sub_eq_add_neg]
  · have h' : ¬ Fin' (∑ a, x (hi a) * (-s a)) := fun hf => h <| by
      rw [fin_sum] at hf ⊢
      intro a ha
      have := hf a ha
      rwa [e, fin_neg] at this
    rw [power, power_top, power_top]
    · rintro ⟨h1, -⟩
      rw [beamRe, fin_add] at h1
      exact h' h1.2
    · rintro ⟨h1, -⟩
      rw [sub_eq_add_neg, fin_add, fin_neg] at h1
      exact h h1.2

/-- A sum over a row's 128 positions is the sum over the real parts plus the sum over the imaginary parts. -/
theorem sum_halves (f : Fin 128 → EReal) : ∑ d, f d = ∑ a, f (lo a) + ∑ a, f (hi a) :=
  Fin.sum_univ_add (a := 64) (b := 64) f

end Cert.Beam

end
-- ==== Proof.Words.lean ====
/- What a 32-bit word denotes: a real number unless its exponent field is all ones, and a nonzero one when that field is
   not all zeros either; and the two constants the programs scale a cosine and a sine with. -/
module

public import proofs.«01_k».proof.Proof.Extended
public import Idealize.ShloMosaic.Lib.IdealHost

@[expose] public section

noncomputable section

namespace Cert.Beam

open Idealize.ShloMosaic

/-- A word whose exponent field is not all ones denotes a real number. -/
theorem ieee_fin (b : BitVec 32) (h : (b.extractLsb' 23 8).toNat ≠ 255) : Fin' (Ideal.ieee 8 23 b) := by
  unfold Ideal.ieee
  dsimp only
  rw [if_neg (by simpa using h)]
  split_ifs <;> exact fin_coe _

/-- A word with a nonzero exponent field, all ones excepted, denotes a nonzero number. -/
theorem ieee_ne_zero (b : BitVec 32) (h : (b.extractLsb' 23 8).toNat ≠ 255) (h0 : (b.extractLsb' 23 8).toNat ≠ 0) :
    Ideal.ieee 8 23 b ≠ 0 := by
  unfold Ideal.ieee
  dsimp only
  rw [if_neg (by simpa using h), if_neg h0]
  refine EReal.coe_ne_zero.mpr ?_
  refine mul_ne_zero (mul_ne_zero ?_ ?_) ?_
  · split_ifs <;> norm_num
  · positivity
  · positivity

/-- One eighth, the factor the kernel multiplies a cosine and a sine by. -/
theorem ofBits_eighth : Ideal.ofBits .f32 0x3E000000#32 = (((1 / 8 : ℝ)) : EReal) := by
  simp only [Ideal.ofBits, Ideal.ieee]
  rw [if_neg (by decide), if_neg (by decide)]
  congr 1
  simp
  norm_num

/-- Eight, the divisor the reference divides a cosine and a sine by. -/
theorem ofBits_eight : Ideal.ofBits .f32 0x41000000#32 = ((8 : ℝ) : EReal) := by
  simp only [Ideal.ofBits, Ideal.ieee]
  rw [if_neg (by decide), if_neg (by decide)]
  congr 1
  simp
  norm_num

/-- The word of negative infinity denotes `⊥`. -/
theorem ofBits_bot : Ideal.ofBits .f32 0xFF800000#32 = ⊥ := by
  simp [Ideal.ofBits, Ideal.ieee]

end Cert.Beam

end
-- ==== Proof.KernelRow.lean ====
/- The kernel body's stored block, read at an index: its four stages named — the beams' powers, the quotients of
   exponentials, the product of the three picked entries — and each read as a function of one row. -/
module

public import proofs.«01_k».proof.Proof.Row
public import proofs.«01_k».proof.Proof.Power
public import proofs.«01_k».proof.Proof.Words
public import proofs.«01_k».proof.Proof.Gen.KernelIdeal.Skeleton
public import Idealize.ShloMosaic.Lib.Pointwise

@[expose] public section

set_option maxRecDepth 16384

noncomputable section

namespace Cert.Beam

open Idealize.ShloMosaic Cert.KernelIdeal Cert.KernelIdeal.Gen

/-- The body's powers: the products of the block with both halves of the weights, squared and added. -/
def bodyPower (v0 : Vec Ideal S4096x128 .f32) (v2 : Vec Ideal S128x256 .f32) : FVec Ideal S4096x128 .f32 :=
  have v1 : FVec Ideal S4096x128 .bf16 := truncf .bf16 v0 bitsLt_bf16_f32
  have v3 : FVec Ideal S128x256 .f32 := shapeCast S128x256 v2 shapeCasts_S128x256_S128x256
  have v4 : FVec Ideal S128x256 .bf16 := truncf .bf16 v3 bitsLt_bf16_f32
  have cst : FVec Ideal S4096x256 .f32 := constant S4096x256 .f32 0x00000000#32
  have v5 : FVec Ideal S4096x256 .f32 := matmul dot_S4096x128_S128x256_S4096x256_1_0_0_1_n_n none v1 v4 cst
  have v6 : FVec Ideal S4096x128 .f32 := extractStridedSlice S4096x128 ![0, 0] v5 slices_S4096x256_o0_0_S4096x128
  have v7 : FVec Ideal S4096x128 .f32 := extractStridedSlice S4096x128 ![0, 128] v5 slices_S4096x256_o0_128_S4096x128
  have v8 : FVec Ideal S4096x128 .f32 := mulf v6 v6
  have v9 : FVec Ideal S4096x128 .f32 := mulf v7 v7
  addf v8 v9

/-- The body's quotients: each row's exponentials, the row's maximum subtracted, over their group's sum. -/
def bodyRatio (v10 : FVec Ideal S4096x128 .f32) (v16 : FVec Ideal S128x128 .f32) : FVec Ideal S4096x128 .f32 :=
  have v11 : FVec Ideal S4096 .f32 :=
    multiReduction .maximumf [1] S4096 v10 0xFF800000#32 reduces_S4096x128_S4096 (.inl rfl) rfl
  have v12 : FVec Ideal S4096x1 .f32 := shapeCast S4096x1 v11 shapeCasts_S4096_S4096x1
  have v13 : FVec Ideal S4096x128 .f32 := broadcastTo S4096x128 v12 broadcasts_S4096x1_S4096x128
  have v14 : FVec Ideal S4096x128 .f32 := subf v10 v13
  have v15 : FVec Ideal S4096x128 .f32 := exp v14
  have cst_6 : FVec Ideal S4096x128 .f32 := constant S4096x128 .f32 0x00000000#32
  have v17 : FVec Ideal S4096x128 .f32 := matmul dot_S4096x128_S128x128_S4096x128_1_0_0_1_n_n none v15 v16 cst_6
  divf v15 v17

/-- The body's product of the root's, the middle node's and the leaf's entry. -/
def bodyOut (v18 : FVec Ideal S4096x128 .f32) (v19 v21 : FVec Ideal S128x64 .f32) : FVec Ideal S4096x64 .f32 :=
  have cst_9 : FVec Ideal S4096x64 .f32 := constant S4096x64 .f32 0x00000000#32
  have v20 : FVec Ideal S4096x64 .f32 := matmul dot_S4096x128_S128x64_S4096x64_1_0_0_1_n_n none v18 v19 cst_9
  have cst_12 : FVec Ideal S4096x64 .f32 := constant S4096x64 .f32 0x00000000#32
  have v22 : FVec Ideal S4096x64 .f32 := matmul dot_S4096x128_S128x64_S4096x64_1_0_0_1_n_n none v18 v21 cst_12
  have v23 : FVec Ideal S4096x64 .f32 := mulf v20 v22
  have v24 : FVec Ideal S4096x64 .f32 := extractStridedSlice S4096x64 ![0, 0] v18 slices_S4096x128_o0_0_S4096x64
  mulf v23 v24

/-- The stored block is the three stages composed. -/
theorem payload_stages (v0 : Vec Ideal S4096x128 .f32) (v2 : Vec Ideal S128x256 .f32) (v16 : FVec Ideal S128x128 .f32)
    (v19 v21 : FVec Ideal S128x64 .f32) :
    k0_pay1 v0 v2 v16 v19 v21 = bodyOut (bodyRatio (bodyPower v0 v2) v16) v19 v21 := rfl

/-- A weight array holds the beams `(c, s)`: columns 0 to 127 give the real part, columns 128 to 255 the imaginary. -/
def Holds (W : Vec Ideal S128x256 .f32) (c s : Nat → Fin 64 → EReal) : Prop :=
  ∀ (j : Fin 128) (a : Fin 64),
    W (ix2 (lo a) ⟨j, by omega⟩) = c j a ∧ W (ix2 (hi a) ⟨j, by omega⟩) = -s j a
    ∧ W (ix2 (lo a) ⟨128 + j, by omega⟩) = s j a
    ∧ W (ix2 (hi a) ⟨128 + j, by omega⟩) = c j a

/-- The first stage at an index: the power of beam `j` on row `r`. -/
theorem bodyPower_apply (v0 : Vec Ideal S4096x128 .f32) (v2 : Vec Ideal S128x256 .f32) (c s : Nat → Fin 64 → EReal)
    (h : Holds v2 c s) (r : Fin 4096) (j : Fin 128) :
    bodyPower v0 v2 (ix2 r j) = power (fun d => v0 (ix2 r d)) (c j) (s j) := by
  pointwise [bodyPower]
  simp only [sum_halves, fun a => (h j a).1, fun a => (h j a).2.1, fun a => (h j a).2.2.1, fun a => (h j a).2.2.2]
  rfl

/-- The entries of an array of 128 columns by natural numbers. -/
def entry {n : Nat} (v : Fin 128 → Fin n → EReal) (k j : Nat) : EReal :=
  if h : k < 128 ∧ j < n then v ⟨k, h.1⟩ ⟨j, h.2⟩ else 0

theorem entry_apply {n : Nat} (v : Fin 128 → Fin n → EReal) (k : Fin 128) (j : Fin n) : entry v k j = v k j :=
  dif_pos ⟨k.2, j.2⟩

/-- The second stage at an index. -/
theorem bodyRatio_apply (v10 : FVec Ideal S4096x128 .f32) (v16 : FVec Ideal S128x128 .f32) (p : Nat → EReal)
    (r : Fin 4096) (hp : ∀ j : Fin 128, v10 (ix2 r j) = p j) (j : Fin 128) :
    bodyRatio v10 v16 (ix2 r j) = ratio p (entry fun k j => v16 (ix2 k j)) j := by
  pointwise [bodyRatio]
  simp only [hp, ofBits_bot, ratio, rowTop, entry_apply]

/-- The third stage at an index. -/
theorem bodyOut_apply (v18 : FVec Ideal S4096x128 .f32) (v19 v21 : FVec Ideal S128x64 .f32) (q : Nat → EReal)
    (r : Fin 4096) (hq : ∀ j : Fin 128, v18 (ix2 r j) = q j) (j : Fin 64) :
    bodyOut v18 v19 v21 (ix2 r j)
      = (∑ k : Fin 128, q k * entry (fun k j => v19 (ix2 k j)) k j)
        * (∑ k : Fin 128, q k * entry (fun k j => v21 (ix2 k j)) k j) * q j := by
  pointwise [bodyOut]
  simp only [hq, entry_apply]

/-- THE STORED BLOCK AT AN INDEX. Given what the weights and the three selection matrices hold, row `r`, column `j` of the
    block is beam `j`'s probability from the powers of row `r`. -/
theorem payload_apply (v0 : Vec Ideal S4096x128 .f32) (v2 : Vec Ideal S128x256 .f32) (v16 : FVec Ideal S128x128 .f32)
    (v19 v21 : FVec Ideal S128x64 .f32) (c s : Nat → Fin 64 → EReal) (h : Holds v2 c s)
    (hne : ∀ j < 84, ∀ a, c j a ≠ 0 ∨ s j a ≠ 0)
    (hfin : ∀ j, j < 64 ∨ 68 ≤ j → ∀ a, Fin' (c j a) ∧ Fin' (s j a))
    (hg : ∀ (k j : Fin 128), j.val < 84 → v16 (ix2 k j) = if (k : Nat) / 4 = j / 4 then 1 else 0)
    (h0 : ∀ (k : Fin 128) (j : Fin 64), v19 (ix2 k j) = if (k : Nat) = 64 + j / 16 then 1 else 0)
    (h1 : ∀ (k : Fin 128) (j : Fin 64), v21 (ix2 k j) = if (k : Nat) = 68 + j / 4 then 1 else 0)
    (r : Fin 4096) (j : Fin 64) :
    k0_pay1 v0 v2 v16 v19 v21 (ix2 r j)
      = probability (fun j => power (fun d => v0 (ix2 r d)) (c j) (s j)) j := by
  rw [payload_stages, bodyOut_apply _ _ _ _ r (bodyRatio_apply _ _
    (fun j => power (fun d => v0 (ix2 r d)) (c j) (s j)) r (bodyPower_apply v0 v2 c s h r)) j]
  refine row_eq _ _ _ _ ?_ ?_ ?_ ?_ j j.2
  · intro k hk j hj
    rw [entry_apply _ ⟨k, hk⟩ ⟨j, by omega⟩]
    exact hg _ _ hj
  · intro k hk j hj
    rw [entry_apply _ ⟨k, hk⟩ ⟨j, hj⟩]
    exact h0 _ _
  · intro k hk j hj
    rw [entry_apply _ ⟨k, hk⟩ ⟨j, hj⟩]
    exact h1 _ _
  · by_cases hx : ∀ d, Fin' (v0 (ix2 r d))
    · have hf : ∀ k, k < 64 ∨ 68 ≤ k → Fin' (power (fun d => v0 (ix2 r d)) (c k) (s k)) := fun k hk =>
        power_of_fin hx (hfin k hk)
      by_cases hr : ∃ r' < 4, power (fun d => v0 (ix2 r d)) (c (64 + r')) (s (64 + r')) = ⊤
      · exact .inr ⟨hr, fun k _ hk => hf k hk⟩
      · refine .inl (.inl fun k _ => ?_)
        by_cases hk : k < 64 ∨ 68 ≤ k
        · exact hf k hk
        · refine (power_fin_or_top _ _ _).resolve_right fun ht => hr ⟨k - 64, by omega, ?_⟩
          rw [show 64 + (k - 64) = k by omega]
          exact ht
    · exact .inl (.inr fun k hk => power_of_not_fin hx (hne k hk))

end Cert.Beam

end
-- ==== Proof.HostWeights.lean ====
/- The kernel's host operations: the weight array it hands the body, as a function of the learned phases, and the three
   selection matrices. -/
module

public import proofs.«01_k».proof.Proof.Gen.KernelIdeal.Frame
public import Idealize.ShloMosaic.Lib.Pointwise
public import Idealize.ShloMosaic.Lib.StableHlo.RunRead

@[expose] public section

set_option maxRecDepth 16384

noncomputable section

namespace Cert.Beam

open Idealize.ShloMosaic Idealize.ShloMosaic.TcCoe Idealize.ShloMosaic.StableHlo Cert.KernelIdeal Cert.KernelIdeal.Gen

/-- The 20 nodes' phases, root first, one column per node. -/
def hostPhases (t0 : FVec Ideal S1x4x64 .f32) (t1 : FVec Ideal S4x4x64 .f32) : FVec Ideal S64x20 .f32 :=
  transpose S64x20 [1, 0] (concatenate S20x64 0 [⟨S4x64, shapeCast S4x64 t0 shapeCasts_S1x4x64_S4x64⟩,
    ⟨S16x64, shapeCast S16x64 t1 shapeCasts_S4x4x64_S16x64⟩] concatenates_S4x64_S16x64_S20x64_d0) transposes_S20x64_S64x20_1_0

/-- One eighth of the phases' cosines. -/
def hostCos (p : FVec Ideal S64x20 .f32) : FVec Ideal S64x20 .f32 :=
  mulf (Host.cos p) (broadcastInDim S64x20 ![] bcast_S_S64x20 (constant S_ .f32 0x3E000000#32))

/-- One eighth of the phases' sines. -/
def hostSin (p : FVec Ideal S64x20 .f32) : FVec Ideal S64x20 .f32 :=
  mulf (Host.sin p) (broadcastInDim S64x20 ![] bcast_S_S64x20 (constant S_ .f32 0x3E000000#32))

/-- The codebook's real words. -/
def hostRe : FVec Ideal S64x64 .f32 := fun i => FloatOps.ofBits .f32 (lit0 (S64x64.rowMajor i))

/-- The codebook's imaginary words. -/
def hostIm : FVec Ideal S64x64 .f32 := fun i => FloatOps.ofBits .f32 (lit1 (S64x64.rowMajor i))

/-- The group matrix. -/
def hostGroups : FVec Ideal S128x128 .f32 := fun i => FloatOps.ofBits .f32 (lit2 (S128x128.rowMajor i))

/-- The matrix that picks a leaf's root entry. -/
def hostSelect0 : FVec Ideal S128x64 .f32 := fun i => FloatOps.ofBits .f32 (lit3 (S128x64.rowMajor i))

/-- The matrix that picks a leaf's middle entry. -/
def hostSelect1 : FVec Ideal S128x64 .f32 := fun i => FloatOps.ofBits .f32 (lit4 (S128x64.rowMajor i))

/-- A codebook array and a node array side by side. -/
def besides (a : FVec Ideal S64x64 .f32) (b : FVec Ideal S64x20 .f32) : FVec Ideal S64x84 .f32 :=
  concatenate S64x84 1 [⟨S64x64, a⟩, ⟨S64x20, b⟩] concatenates_S64x64_S64x20_S64x84_d1

/-- The rows for the real parts over the rows for the imaginary parts, 44 zero columns added. -/
def half (a b : FVec Ideal S64x84 .f32) : FVec Ideal S128x128 .f32 :=
  concatenate S128x128 1 [⟨S128x84, concatenate S128x84 0 [⟨S64x84, a⟩, ⟨S64x84, b⟩] concatenates_S64x84_S64x84_S128x84_d0⟩,
    ⟨S128x44, broadcastInDim S128x44 ![] bcast_S_S128x44 (constant S_ .f32 0x00000000#32)⟩]
    concatenates_S128x84_S128x44_S128x128_d1

/-- The weight array from the cosines and sines. -/
def hostWeights (u v : FVec Ideal S64x20 .f32) : FVec Ideal S128x256 .f32 :=
  concatenate S128x256 1
    [⟨S128x128, half (besides hostRe u) (besides (Host.negf hostIm) (Host.negf v))⟩,
     ⟨S128x128, half (besides hostIm v) (besides hostRe u)⟩] concatenates_S128x128_S128x128_S128x256_d1

/-- Two arrays joined along an axis, as a function of the two: an operand can then be rewritten where it stands. -/
def join2 {α : Type} {s₁ s₂ t : Shape} {d : Fin t.rank} (h : Shape.Concatenates [s₁, s₂] t d) (a : s₁.Idx → α)
    (b : s₂.Idx → α) : t.Idx → α :=
  concatenate t d [⟨s₁, a⟩, ⟨s₂, b⟩] h

theorem concatenate_two {α : Type} {s₁ s₂ t : Shape} {d : Fin t.rank} (h : Shape.Concatenates [s₁, s₂] t d)
    (a : s₁.Idx → α) (b : s₂.Idx → α) : concatenate t d [⟨s₁, a⟩, ⟨s₂, b⟩] h = join2 h a b := rfl

/-- What the body's weight window stages. -/
theorem V_weights (m : (ℓ : Loc nD τ sig) → Buf (Elt Ideal) ℓ) (c : Dev nD) :
    V m c main_v21
      = hostWeights (hostCos (hostPhases (m ((c : Thread nD τ).loc main_arg1)) (m ((c : Thread nD τ).loc main_arg2))))
          (hostSin (hostPhases (m ((c : Thread nD τ).loc main_arg1)) (m ((c : Thread nD τ).loc main_arg2)))) := by
  unfold V hostOps0
  after_reads_simp [↓ concatenate_two]
  rfl

/-- The group matrix the body's third window stages. -/
theorem V_groups (m : (ℓ : Loc nD τ sig) → Buf (Elt Ideal) ℓ) (c : Dev nD) :
    V m c main_cst_1 = hostGroups := by
  unfold V hostOps0
  after_reads_simp [↓ concatenate_two]
  rfl

/-- The first selection matrix. -/
theorem V_select0 (m : (ℓ : Loc nD τ sig) → Buf (Elt Ideal) ℓ) (c : Dev nD) :
    V m c main_cst_2 = hostSelect0 := by
  unfold V hostOps0
  after_reads_simp [↓ concatenate_two]
  rfl

/-- The second selection matrix. -/
theorem V_select1 (m : (ℓ : Loc nD τ sig) → Buf (Elt Ideal) ℓ) (c : Dev nD) :
    V m c main_cst_3 = hostSelect1 := by
  unfold V hostOps0
  after_reads_simp [↓ concatenate_two]
  rfl

end Cert.Beam

end
-- ==== Proof.Codebook.lean ====
/- The codebook both programs carry, decided over its tables. -/
module

public import proofs.«01_k».proof.Defs

@[expose] public section

namespace Cert.Beam

set_option maxRecDepth 100000 in
/-- Both programs carry the same codebook, real and imaginary words alike; every word is finite; and at no position are
    the exponent fields of both words zero. -/
theorem codebook : ∀ a b : Fin 64,
    KernelIdeal.lit0t (64 * a + b) = ReferenceIdeal.lit0t (64 * a + b)
    ∧ KernelIdeal.lit1t (64 * a + b) = ReferenceIdeal.lit1t (64 * a + b)
    ∧ ((KernelIdeal.lit0t (64 * a + b)).extractLsb' 23 8).toNat ≠ 255
    ∧ ((KernelIdeal.lit1t (64 * a + b)).extractLsb' 23 8).toNat ≠ 255
    ∧ (((KernelIdeal.lit0t (64 * a + b)).extractLsb' 23 8).toNat ≠ 0
        ∨ ((KernelIdeal.lit1t (64 * a + b)).extractLsb' 23 8).toNat ≠ 0) := by
  decide +kernel

end Cert.Beam

end
-- ==== Proof.Beams.lean ====
/- The tree's 84 beams: at each antenna a pair of weights. Beams 0 to 63 are the codebook's; beams 64 to 83 belong to
   the 20 node phases, an eighth of the phase's cosine and sine; past them the weights are zero. A beam of the tree has a
   nonzero pair at every antenna. -/
module

public import proofs.«01_k».proof.Proof.Power
public import proofs.«01_k».proof.Proof.Words
public import proofs.«01_k».proof.Proof.Codebook
public import Idealize.ShloMosaic.Lib.Pointwise

@[expose] public section

noncomputable section

namespace Cert.Beam

open Idealize.ShloMosaic Cert.KernelIdeal

/-- Antenna `a`'s phase at node beam `n`: the root's four beams first, then the four of each middle node. -/
def angle (t0 : FVec Ideal S1x4x64 .f32) (t1 : FVec Ideal S4x4x64 .f32) (n : Nat) (a : Fin 64) : EReal :=
  if h : n < 4 then t0 (ix3 0 ⟨n, h⟩ a)
  else t1 (ix3 ⟨(n - 4) / 4 % 4, Nat.mod_lt _ (by norm_num)⟩ ⟨(n - 4) % 4, Nat.mod_lt _ (by norm_num)⟩ a)

/-- Real weight of beam `j` at antenna `a`. -/
def weightRe (t0 : FVec Ideal S1x4x64 .f32) (t1 : FVec Ideal S4x4x64 .f32) (j : Nat) (a : Fin 64) : EReal :=
  if j < 64 then Ideal.ofBits .f32 (lit0t (64 * a + j))
  else if j < 84 then Ideal.cos (angle t0 t1 (j - 64) a) * Ideal.ofBits .f32 0x3E000000#32 else 0

/-- Imaginary weight of beam `j` at antenna `a`. -/
def weightIm (t0 : FVec Ideal S1x4x64 .f32) (t1 : FVec Ideal S4x4x64 .f32) (j : Nat) (a : Fin 64) : EReal :=
  if j < 64 then Ideal.ofBits .f32 (lit1t (64 * a + j))
  else if j < 84 then Ideal.sin (angle t0 t1 (j - 64) a) * Ideal.ofBits .f32 0x3E000000#32 else 0

/-- A real word of the codebook is the real weight. -/
theorem codeRe (t0 : FVec Ideal S1x4x64 .f32) (t1 : FVec Ideal S4x4x64 .f32) (a j : Fin 64) :
    Ideal.ofBits .f32 (lit0t (64 * a + j)) = weightRe t0 t1 j a := by
  rw [weightRe, if_pos j.2]

/-- An imaginary word of the codebook is the imaginary weight. -/
theorem codeIm (t0 : FVec Ideal S1x4x64 .f32) (t1 : FVec Ideal S4x4x64 .f32) (a j : Fin 64) :
    Ideal.ofBits .f32 (lit1t (64 * a + j)) = weightIm t0 t1 j a := by
  rw [weightIm, if_pos j.2]

/-- A quotient by eight is the product with an eighth, infinite or not. -/
theorem eighth (a : EReal) : Ideal.div a (Ideal.ofBits .f32 0x41000000#32) = a * Ideal.ofBits .f32 0x3E000000#32 := by
  rw [ofBits_eighth, ofBits_eight, Ideal.div, if_neg (by norm_num), ← EReal.coe_inv]
  congr 2
  norm_num

/-- The weights of every beam but the root's four are real, when the middle nodes' phases are. -/
theorem weight_fin (t0 : FVec Ideal S1x4x64 .f32) (t1 : FVec Ideal S4x4x64 .f32) (h : ∀ i, Fin' (t1 i)) (j : Nat)
    (hj : j < 64 ∨ 68 ≤ j) (a : Fin 64) : Fin' (weightRe t0 t1 j a) ∧ Fin' (weightIm t0 t1 j a) := by
  by_cases h0 : j < 64
  · rw [weightRe, weightIm, if_pos h0, if_pos h0]
    exact ⟨ieee_fin _ (codebook a ⟨j, h0⟩).2.2.1, ieee_fin _ (codebook a ⟨j, h0⟩).2.2.2.1⟩
  rw [weightRe, weightIm, if_neg h0, if_neg h0]
  by_cases h1 : j < 84
  · rw [if_pos h1, if_pos h1, angle, dif_neg (by omega), ofBits_eighth]
    obtain ⟨r, hr⟩ := (h (ix3 ⟨(j - 64 - 4) / 4 % 4, Nat.mod_lt _ (by norm_num)⟩
      ⟨(j - 64 - 4) % 4, Nat.mod_lt _ (by norm_num)⟩ a)).eq_coe
    rw [hr]
    exact ⟨fin_mul (fin_coe _) (fin_coe _), fin_mul (fin_coe _) (fin_coe _)⟩
  · rw [if_neg h1, if_neg h1]
    exact ⟨fin_coe 0, fin_coe 0⟩

/-- A phase's cosine and sine are not both zero, infinite phase or not. -/
theorem cos_or_sin_ne_zero (p : EReal) : Ideal.cos p ≠ 0 ∨ Ideal.sin p ≠ 0 := by
  induction p with
  | top => exact .inl (show (⊥ : EReal) ≠ 0 from EReal.bot_ne_zero)
  | bot => exact .inl (show (⊥ : EReal) ≠ 0 from EReal.bot_ne_zero)
  | coe r =>
    by_contra hc
    rw [not_or, not_not, not_not] at hc
    have h := Real.cos_sq_add_sin_sq r
    rw [EReal.coe_eq_zero.1 hc.1, EReal.coe_eq_zero.1 hc.2] at h
    norm_num at h

/-- Every beam of the tree weighs every antenna: its pair of weights is not zero. -/
theorem weight_ne_zero (t0 : FVec Ideal S1x4x64 .f32) (t1 : FVec Ideal S4x4x64 .f32) (j : Nat) (hj : j < 84)
    (a : Fin 64) : weightRe t0 t1 j a ≠ 0 ∨ weightIm t0 t1 j a ≠ 0 := by
  by_cases h : j < 64
  · rw [weightRe, weightIm, if_pos h, if_pos h]
    obtain ⟨-, -, hr, hi, h0⟩ := codebook a ⟨j, h⟩
    exact h0.imp (fun hn hz => ieee_ne_zero _ hr hn hz) fun hn hz => ieee_ne_zero _ hi hn hz
  · rw [weightRe, weightIm, if_neg h, if_neg h, if_pos hj, if_pos hj]
    have he : Ideal.ofBits .f32 0x3E000000#32 ≠ 0 := by rw [ofBits_eighth]; norm_num
    exact (cos_or_sin_ne_zero _).imp (fun hn => mul_ne_zero hn he) fun hn => mul_ne_zero hn he

end Cert.Beam

end
-- ==== Proof.Groups.lean ====
/- The kernel's group matrix, decided over its table. -/
module

public import proofs.«01_k».proof.Defs

@[expose] public section

namespace Cert.Beam

set_option maxRecDepth 100000 in
/-- Column `j < 84` of the kernel's group matrix has ones at the rows of its group of four. -/
theorem groups : ∀ k : Fin 128, ∀ j : Fin 84,
    KernelIdeal.lit2t (128 * k + j) = if (k : Nat) / 4 = j / 4 then 0x3F800000#32 else 0x00000000#32 := by
  decide +kernel

end Cert.Beam

end
-- ==== Proof.SelectRoot.lean ====
/- The kernel's first selection matrix, decided over its table. -/
module

public import proofs.«01_k».proof.Defs

@[expose] public section

namespace Cert.Beam

set_option maxRecDepth 100000 in
/-- Column `j` of the first selection matrix has its one at row `64 + j / 16`. -/
theorem select0 : ∀ k : Fin 128, ∀ j : Fin 64,
    KernelIdeal.lit3t (64 * k + j) = if (k : Nat) = 64 + j / 16 then 0x3F800000#32 else 0x00000000#32 := by
  decide +kernel

end Cert.Beam

end
-- ==== Proof.SelectMid.lean ====
/- The kernel's second selection matrix, decided over its table. -/
module

public import proofs.«01_k».proof.Defs

@[expose] public section

namespace Cert.Beam

set_option maxRecDepth 100000 in
/-- Column `j` of the second selection matrix has its one at row `68 + j / 4`. -/
theorem select1 : ∀ k : Fin 128, ∀ j : Fin 64,
    KernelIdeal.lit4t (64 * k + j) = if (k : Nat) = 68 + j / 4 then 0x3F800000#32 else 0x00000000#32 := by
  decide +kernel

end Cert.Beam

end
-- ==== Proof.Weights.lean ====
/- The arrays the kernel's host operations prepare, entry by entry: the weights are the tree's beams, the selection matrices
   zeros and ones. -/
module

public import proofs.«01_k».proof.Proof.KernelRow
public import proofs.«01_k».proof.Proof.HostWeights
public import proofs.«01_k».proof.Proof.Beams
public import proofs.«01_k».proof.Proof.Groups
public import proofs.«01_k».proof.Proof.SelectRoot
public import proofs.«01_k».proof.Proof.SelectMid
public import Idealize.ShloMosaic.Lib.Pointwise

@[expose] public section

set_option maxRecDepth 16384

noncomputable section

namespace Cert.Beam

open Idealize.ShloMosaic Cert.KernelIdeal Cert.KernelIdeal.Gen

variable (t0 : FVec Ideal S1x4x64 .f32) (t1 : FVec Ideal S4x4x64 .f32)

theorem hostPhases_apply (a : Fin 64) (n : Fin 20) : hostPhases t0 t1 (ix2 a n) = angle t0 t1 n a := by
  pointwise [hostPhases]
  unfold angle
  by_cases h : (n : Nat) < 4
  · rw [dif_pos h, dif_pos h]
  · rw [dif_neg h, dif_neg h]
    congr 2
    exact Fin.ext (Nat.mod_eq_of_lt (by omega)).symm

/-- The cosine array holds the node beams' real weights. -/
theorem hostCos_apply (a : Fin 64) (j : Nat) (hj : 64 ≤ j) (hj' : j < 84) :
    hostCos (hostPhases t0 t1) (ix2 a ⟨j - 64, by omega⟩) = weightRe t0 t1 j a := by
  pointwise [hostCos]
  rw [hostPhases_apply, weightRe, if_neg (by omega), if_pos hj']

/-- The sine array holds the node beams' imaginary weights. -/
theorem hostSin_apply (a : Fin 64) (j : Nat) (hj : 64 ≤ j) (hj' : j < 84) :
    hostSin (hostPhases t0 t1) (ix2 a ⟨j - 64, by omega⟩) = weightIm t0 t1 j a := by
  pointwise [hostSin]
  rw [hostPhases_apply, weightIm, if_neg (by omega), if_pos hj']

theorem hostRe_apply (a j : Fin 64) : hostRe (ix2 a j) = weightRe t0 t1 j a := by
  rw [← codeRe t0 t1 a j]
  have e : (S64x64.rowMajor (ix2 a j)).val = 64 * a + j := by
    rw [Shape.rowMajor_val_two]; simp; omega
  show Ideal.ofBits .f32 (lit0t (S64x64.rowMajor (ix2 a j)).val) = _
  rw [e]

theorem hostIm_apply (a j : Fin 64) : hostIm (ix2 a j) = weightIm t0 t1 j a := by
  rw [← codeIm t0 t1 a j]
  have e : (S64x64.rowMajor (ix2 a j)).val = 64 * a + j := by
    rw [Shape.rowMajor_val_two]; simp; omega
  show Ideal.ofBits .f32 (lit1t (S64x64.rowMajor (ix2 a j)).val) = _
  rw [e]

/-- Real weights side by side: the codebook's, then the nodes'. -/
theorem besidesRe_apply (a : Fin 64) (j : Fin 84) :
    besides hostRe (hostCos (hostPhases t0 t1)) (ix2 a j) = weightRe t0 t1 j a := by
  pointwise [besides]
  by_cases hj : (j : Nat) < 64
  · rw [dif_pos hj]
    exact hostRe_apply t0 t1 a ⟨j, hj⟩
  · rw [dif_neg hj]
    exact hostCos_apply t0 t1 a j (by omega) j.2

/-- Imaginary weights side by side. -/
theorem besidesIm_apply (a : Fin 64) (j : Fin 84) :
    besides hostIm (hostSin (hostPhases t0 t1)) (ix2 a j) = weightIm t0 t1 j a := by
  pointwise [besides]
  by_cases hj : (j : Nat) < 64
  · rw [dif_pos hj]
    exact hostIm_apply t0 t1 a ⟨j, hj⟩
  · rw [dif_neg hj]
    exact hostSin_apply t0 t1 a j (by omega) j.2

/-- Negated imaginary weights side by side. -/
theorem besidesNeg_apply (a : Fin 64) (j : Fin 84) :
    besides (Host.negf hostIm) (Host.negf (hostSin (hostPhases t0 t1))) (ix2 a j)
      = -weightIm t0 t1 j a := by
  pointwise [besides]
  by_cases hj : (j : Nat) < 64
  · rw [dif_pos hj]
    exact congrArg _ (hostIm_apply t0 t1 a ⟨j, hj⟩)
  · rw [dif_neg hj]
    exact congrArg _ (hostSin_apply t0 t1 a j (by omega) j.2)

/-- A half of the weight array: the upper rows' array, the lower rows' array, zero past column 84. -/
theorem half_apply (p q : FVec Ideal S64x84 .f32) (f g : Nat → Fin 64 → EReal)
    (hp : ∀ (a : Fin 64) (j : Fin 84), p (ix2 a j) = f j a)
    (hq : ∀ (a : Fin 64) (j : Fin 84), q (ix2 a j) = g j a)
    (hf : ∀ a j, 84 ≤ j → f j a = 0) (hg : ∀ a j, 84 ≤ j → g j a = 0) (j : Fin 128) (a : Fin 64) :
    half p q (ix2 (lo a) j) = f j a ∧ half p q (ix2 (hi a) j) = g j a := by
  constructor
  · pointwise [half]
    by_cases h1 : (j : Nat) < 84
    · rw [dif_pos h1]
      exact hp a ⟨j, h1⟩
    · rw [dif_neg h1, hf a j (by omega)]
  · pointwise [half]
    by_cases h1 : (j : Nat) < 84
    · rw [dif_pos h1]
      exact hq a ⟨j, h1⟩
    · rw [dif_neg h1, hg a j (by omega)]

theorem weightRe_zero (a : Fin 64) (j : Nat) (hj : 84 ≤ j) : weightRe t0 t1 j a = 0 := by
  rw [weightRe, if_neg (by omega), if_neg (by omega)]

theorem weightIm_zero (a : Fin 64) (j : Nat) (hj : 84 ≤ j) : weightIm t0 t1 j a = 0 := by
  rw [weightIm, if_neg (by omega), if_neg (by omega)]

/-- THE WEIGHT ARRAY HOLDS THE TREE'S BEAMS. -/
theorem hostWeights_holds :
    Holds (hostWeights (hostCos (hostPhases t0 t1)) (hostSin (hostPhases t0 t1))) (weightRe t0 t1) (weightIm t0 t1) := by
  intro j a
  have hl := half_apply _ _ _ (fun j a => -weightIm t0 t1 j a) (besidesRe_apply t0 t1) (besidesNeg_apply t0 t1)
    (weightRe_zero t0 t1) (fun a j hj => by rw [weightIm_zero t0 t1 a j hj, neg_zero]) j a
  have hr := half_apply _ _ _ _ (besidesIm_apply t0 t1) (besidesRe_apply t0 t1)
    (weightIm_zero t0 t1) (weightRe_zero t0 t1) j a
  refine ⟨?_, ?_, ?_, ?_⟩
  · pointwise [hostWeights]
    exact hl.1
  · pointwise [hostWeights]
    exact hl.2
  · pointwise [hostWeights]
    exact hr.1
  · pointwise [hostWeights]
    exact hr.2

theorem hostGroups_apply (k j : Fin 128) (hj : j.val < 84) :
    hostGroups (ix2 k j) = if (k : Nat) / 4 = j / 4 then 1 else 0 := by
  have e : (S128x128.rowMajor (ix2 k j)).val = 128 * k + j := by
    rw [Shape.rowMajor_val_two]; simp; omega
  show Ideal.ofBits .f32 (lit2t (S128x128.rowMajor (ix2 k j)).val) = _
  rw [e, groups k ⟨j, hj⟩]
  split_ifs
  · exact Ideal.ofBits_one_f32
  · exact Ideal.ofBits_zero_f32

theorem hostSelect0_apply (k : Fin 128) (j : Fin 64) :
    hostSelect0 (ix2 k j) = if (k : Nat) = 64 + j / 16 then 1 else 0 := by
  have e : (S128x64.rowMajor (ix2 k j)).val = 64 * k + j := by
    rw [Shape.rowMajor_val_two]; simp; omega
  show Ideal.ofBits .f32 (lit3t (S128x64.rowMajor (ix2 k j)).val) = _
  rw [e, select0 k j]
  split_ifs
  · exact Ideal.ofBits_one_f32
  · exact Ideal.ofBits_zero_f32

theorem hostSelect1_apply (k : Fin 128) (j : Fin 64) :
    hostSelect1 (ix2 k j) = if (k : Nat) = 68 + j / 4 then 1 else 0 := by
  have e : (S128x64.rowMajor (ix2 k j)).val = 64 * k + j := by
    rw [Shape.rowMajor_val_two]; simp; omega
  show Ideal.ofBits .f32 (lit4t (S128x64.rowMajor (ix2 k j)).val) = _
  rw [e, select1 k j]
  split_ifs
  · exact Ideal.ofBits_one_f32
  · exact Ideal.ofBits_zero_f32

end Cert.Beam

end
-- ==== Proof.Result.lean ====
/- The array both programs compute when the middle nodes' phases are finite. -/
module

public import proofs.«01_k».proof.Proof.Row
public import proofs.«01_k».proof.Proof.Beams

@[expose] public section

noncomputable section

namespace Cert.Beam

open Idealize.ShloMosaic Cert.KernelIdeal

/-- THE RESULT: entry `(n, j)` is beam `j`'s probability from the powers of sample row `n`. -/
def result (x : FVec Ideal S16384x128 .f32) (t0 : FVec Ideal S1x4x64 .f32) (t1 : FVec Ideal S4x4x64 .f32) :
    FVec Ideal S16384x64 .f32 :=
  fun y => probability (fun j => power (fun d => x (ix2 (y 0) d)) (weightRe t0 t1 j) (weightIm t0 t1 j)) (y 1).val

end Cert.Beam

end
-- ==== Proof.KernelArray.lean ====
/- The kernel's result array after the run, at an index: each row holds the tree's probabilities of its row of samples. -/
module

public import proofs.«01_k».proof.Proof.Weights
public import proofs.«01_k».proof.Proof.Result
public import proofs.«01_k».proof.Proof.Gen.KernelIdeal.Value
public import Idealize.ShloMosaic.Lib.Pipeline.ValueKit

@[expose] public section

set_option maxRecDepth 16384

noncomputable section

namespace Cert.Beam

open Idealize.ShloMosaic Idealize.ShloMosaic.TcCoe Cert.KernelIdeal Cert.KernelIdeal.Gen

variable (m : (ℓ : Loc nD τ sig) → Buf (Elt Ideal) ℓ) (c : Dev nD)

/-- Where each window's block lies at a grid point: the samples and the result move one block of rows per point, the other
    windows stay. -/
theorem index_facts : ∀ t : Fin grid0.N,
    win0_0.index t = ![t.val, 0] ∧ win0_1.index t = ![0, 0] ∧ win0_2.index t = ![0, 0] ∧ win0_3.index t = ![0, 0]
    ∧ win0_4.index t = ![0, 0] ∧ win0_5.index t = ![t.val, 0] := by
  decide +kernel

/-- The staged weights are the whole weight array. -/
theorem block_weights (t : Fin cfg0.N) :
    iblk m c 1 t = hostWeights
      (hostCos (hostPhases (m ((c : Thread nD τ).loc main_arg1)) (m ((c : Thread nD τ).loc main_arg2))))
      (hostSin (hostPhases (m ((c : Thread nD τ).loc main_arg1)) (m ((c : Thread nD τ).loc main_arg2)))) := by
  rw [← V_weights m c]
  funext y
  blk_ext [iblk, index_facts t]

/-- The staged group matrix is the whole one. -/
theorem block_groups (t : Fin cfg0.N) : iblk m c 2 t = hostGroups := by
  rw [← V_groups m c]
  funext y
  blk_ext [iblk, index_facts t]

/-- The staged first selection matrix is the whole one. -/
theorem block_select0 (t : Fin cfg0.N) : iblk m c 3 t = hostSelect0 := by
  rw [← V_select0 m c]
  funext y
  blk_ext [iblk, index_facts t]

/-- The staged second selection matrix is the whole one. -/
theorem block_select1 (t : Fin cfg0.N) : iblk m c 4 t = hostSelect1 := by
  rw [← V_select1 m c]
  funext y
  blk_ext [iblk, index_facts t]

/-- Row `r` of the samples' block at point `t` is row `4096 t + r` of the samples. -/
theorem block_samples (t : Fin cfg0.N) (r : Fin 4096) (n : Fin 16384) (hn : n.val = t.val * 4096 + r) (d : Fin 128) :
    iblk m c 0 t (ix2 r d) = m ((c : Thread nD τ).loc main_arg0) (ix2 n d) := by
  rw [← V_main_arg0 m c]
  blk_ext [iblk, index_facts t]

/-- THE KERNEL'S RESULT ARRAY, when every phase of the middle nodes is finite. -/
theorem kernel_array
    (h : ∀ i, Fin' ((m ((c : Thread nD τ).loc main_arg2) : FVec Ideal S4x4x64 .f32) i)) :
    (dats m 0 c).arrAt 5 cfg0.N = result (m ((c : Thread nD τ).loc main_arg0)) (m ((c : Thread nD τ).loc main_arg1))
      (m ((c : Thread nD τ).loc main_arg2)) := by
  refine (dats m 0 c).arrAt_eq_of_covers 5 _ (by decide +kernel) fun t hf y => ?_
  blk_simp
  rw [after0_5]
  frame_out
  rw [block_weights, block_groups, block_select0, block_select1]
  revert y
  intro (y : S4096x64.Idx)
  idx_vars y
  rw [payload_apply _ _ _ _ _ _ _ (hostWeights_holds _ _) (weight_ne_zero _ _) (weight_fin _ _ h) hostGroups_apply hostSelect0_apply
    hostSelect1_apply]
  have e0 : ((((View.whole main_v22).slice (win0_5.rect t)).emb (ix2 y0 y1) : S16384x64.Idx) 0).val = t.val * 4096 + y0 := by
    blk_simp [index_facts t]
  have e1 : ((((View.whole main_v22).slice (win0_5.rect t)).emb (ix2 y0 y1) : S16384x64.Idx) 1).val = y1 := by
    blk_simp [index_facts t]
  unfold result
  rw [e1]
  simp only [block_samples m c t y0 _ e0]

end Cert.Beam

end
-- ==== Proof.Reference.lean ====
/- The reference's host operations, its stages named: the powers of the root's, the middle nodes' and the leaves' beams, the
   softmax over each group of four, and the products down the tree. -/
module

public import proofs.«01_k».proof.Proof.Gen.ReferenceIdeal.Run
public import Idealize.ShloMosaic.Lib.Pointwise

@[expose] public section

set_option maxRecDepth 16384

noncomputable section

namespace Cert.Beam

open Idealize.ShloMosaic Idealize.ShloMosaic.TcCoe Cert.ReferenceIdeal Cert.ReferenceIdeal.Gen

/-- The root's four pairs of weight rows, from the phases. -/
def refRootWeights (t0 : FVec Ideal S1x4x64 .f32) : FVec Ideal S1x8x128 .f32 :=
  let u : FVec Ideal S1x4x64 .f32 := Host.divf (Host.cos t0) (broadcastInDim S1x4x64 ![] bcast_S_S1x4x64 (constant S_ .f32 0x41000000#32))
  let v : FVec Ideal S1x4x64 .f32 := Host.divf (Host.sin t0) (broadcastInDim S1x4x64 ![] bcast_S_S1x4x64 (constant S_ .f32 0x41000000#32))
  concatenate S1x8x128 1
    [⟨S1x4x128, concatenate S1x4x128 2 [⟨S1x4x64, u⟩, ⟨S1x4x64, Host.negf v⟩] concatenates_S1x4x64_S1x4x64_S1x4x128_d2⟩,
     ⟨S1x4x128, concatenate S1x4x128 2 [⟨S1x4x64, v⟩, ⟨S1x4x64, u⟩] concatenates_S1x4x64_S1x4x64_S1x4x128_d2⟩]
    concatenates_S1x4x128_S1x4x128_S1x8x128_d1

/-- The powers of the root's four beams. -/
def refRootPower (x : FVec Ideal S16384x128 .f32) (w : FVec Ideal S1x8x128 .f32) : FVec Ideal S16384x1x4 .f32 :=
  let b : FVec Ideal S16384x1x8 .f32 := Host.dotGeneral dot_S16384x128_S1x8x128_S16384x1x8_1_2_0_01_n_n none x w
  let re : FVec Ideal S16384x1x4 .f32 := extractStridedSlice S16384x1x4 ![0, 0, 0] b slices_S16384x1x8_S16384x1x4_0_0_0
  let im : FVec Ideal S16384x1x4 .f32 := extractStridedSlice S16384x1x4 ![0, 0, 4] b slices_S16384x1x8_S16384x1x4_0_0_4
  addf (mulf re re) (mulf im im)

/-- The softmax over the root's four beams. -/
def refRootSoft (p : FVec Ideal S16384x1x4 .f32) : FVec Ideal S16384x1x4 .f32 :=
  let e : FVec Ideal S16384x1x4 .f32 := Host.exp (subf p (broadcastInDim S16384x1x4 ![0, 1, 2] bcast_S16384x1x1_S16384x1x4_0_1_2
    (broadcastInDim S16384x1x1 ![0, 1] bcast_S16384x1_S16384x1x1_0_1
      (maximumf (broadcastInDim S16384x1 ![] bcast_S_S16384x1 (constant S_ .f32 0xFF800000#32))
        (Host.reduce FloatOps.maximumf p (constant S_ .f32 0xFF800000#32) reducesTo_S16384x1x4_S16384x1_d2 h_S_)))))
  Host.divf e (broadcastInDim S16384x1x4 ![0, 1, 2] bcast_S16384x1x1_S16384x1x4_0_1_2
    (broadcastInDim S16384x1x1 ![0, 1] bcast_S16384x1_S16384x1x1_0_1
      (Host.reduceAdd e (constant S_ .f32 0x00000000#32) reducesTo_S16384x1x4_S16384x1_d2 h_S_)))

/-- The middle nodes' pairs of weight rows, from the phases. -/
def refMidWeights (t1 : FVec Ideal S4x4x64 .f32) : FVec Ideal S4x8x128 .f32 :=
  let u : FVec Ideal S4x4x64 .f32 := Host.divf (Host.cos t1) (broadcastInDim S4x4x64 ![] bcast_S_S4x4x64 (constant S_ .f32 0x41000000#32))
  let v : FVec Ideal S4x4x64 .f32 := Host.divf (Host.sin t1) (broadcastInDim S4x4x64 ![] bcast_S_S4x4x64 (constant S_ .f32 0x41000000#32))
  concatenate S4x8x128 1
    [⟨S4x4x128, concatenate S4x4x128 2 [⟨S4x4x64, u⟩, ⟨S4x4x64, Host.negf v⟩] concatenates_S4x4x64_S4x4x64_S4x4x128_d2⟩,
     ⟨S4x4x128, concatenate S4x4x128 2 [⟨S4x4x64, v⟩, ⟨S4x4x64, u⟩] concatenates_S4x4x64_S4x4x64_S4x4x128_d2⟩]
    concatenates_S4x4x128_S4x4x128_S4x8x128_d1

/-- The powers of the middle nodes' beams. -/
def refMidPower (x : FVec Ideal S16384x128 .f32) (w : FVec Ideal S4x8x128 .f32) : FVec Ideal S16384x4x4 .f32 :=
  let b : FVec Ideal S16384x4x8 .f32 := Host.dotGeneral dot_S16384x128_S4x8x128_S16384x4x8_1_2_0_01_n_n none x w
  let re : FVec Ideal S16384x4x4 .f32 := extractStridedSlice S16384x4x4 ![0, 0, 0] b slices_S16384x4x8_S16384x4x4_0_0_0
  let im : FVec Ideal S16384x4x4 .f32 := extractStridedSlice S16384x4x4 ![0, 0, 4] b slices_S16384x4x8_S16384x4x4_0_0_4
  addf (mulf re re) (mulf im im)

/-- The softmax over each middle node's four beams. -/
def refMidSoft (p : FVec Ideal S16384x4x4 .f32) : FVec Ideal S16384x4x4 .f32 :=
  let e : FVec Ideal S16384x4x4 .f32 := Host.exp (subf p (broadcastInDim S16384x4x4 ![0, 1, 2] bcast_S16384x4x1_S16384x4x4_0_1_2
    (broadcastInDim S16384x4x1 ![0, 1] bcast_S16384x4_S16384x4x1_0_1
      (maximumf (broadcastInDim S16384x4 ![] bcast_S_S16384x4 (constant S_ .f32 0xFF800000#32))
        (Host.reduce FloatOps.maximumf p (constant S_ .f32 0xFF800000#32) reducesTo_S16384x4x4_S16384x4_d2 h_S_)))))
  Host.divf e (broadcastInDim S16384x4x4 ![0, 1, 2] bcast_S16384x4x1_S16384x4x4_0_1_2
    (broadcastInDim S16384x4x1 ![0, 1] bcast_S16384x4_S16384x4x1_0_1
      (Host.reduceAdd e (constant S_ .f32 0x00000000#32) reducesTo_S16384x4x4_S16384x4_d2 h_S_)))

/-- The codebook's real words. -/
def refRe : FVec Ideal S64x64 .f32 := fun i => FloatOps.ofBits .f32 (lit0 (S64x64.rowMajor i))

/-- The codebook's imaginary words. -/
def refIm : FVec Ideal S64x64 .f32 := fun i => FloatOps.ofBits .f32 (lit1 (S64x64.rowMajor i))

/-- The powers of the leaves' beams. -/
def refLeafPower (x : FVec Ideal S16384x128 .f32) : FVec Ideal S16384x64 .f32 :=
  let xr : FVec Ideal S16384x64 .f32 := extractStridedSlice S16384x64 ![0, 0] x slices_S16384x128_S16384x64_0_0
  let xi : FVec Ideal S16384x64 .f32 := extractStridedSlice S16384x64 ![0, 64] x slices_S16384x128_S16384x64_0_64
  let re : FVec Ideal S16384x64 .f32 := subf (Host.dotGeneral dot_S16384x64_S64x64_S16384x64_1_0_0_1_n_n none xr refRe)
    (Host.dotGeneral dot_S16384x64_S64x64_S16384x64_1_0_0_1_n_n none xi refIm)
  let im : FVec Ideal S16384x64 .f32 := addf (Host.dotGeneral dot_S16384x64_S64x64_S16384x64_1_0_0_1_n_n none xr refIm)
    (Host.dotGeneral dot_S16384x64_S64x64_S16384x64_1_0_0_1_n_n none xi refRe)
  addf (mulf re re) (mulf im im)

/-- The softmax over each group of four leaves. -/
def refLeafSoft (p : FVec Ideal S16384x16x4 .f32) : FVec Ideal S16384x16x4 .f32 :=
  let e : FVec Ideal S16384x16x4 .f32 := Host.exp (subf p (broadcastInDim S16384x16x4 ![0, 1, 2] bcast_S16384x16x1_S16384x16x4_0_1_2
    (broadcastInDim S16384x16x1 ![0, 1] bcast_S16384x16_S16384x16x1_0_1
      (maximumf (broadcastInDim S16384x16 ![] bcast_S_S16384x16 (constant S_ .f32 0xFF800000#32))
        (Host.reduce FloatOps.maximumf p (constant S_ .f32 0xFF800000#32) reducesTo_S16384x16x4_S16384x16_d2 h_S_)))))
  Host.divf e (broadcastInDim S16384x16x4 ![0, 1, 2] bcast_S16384x16x1_S16384x16x4_0_1_2
    (broadcastInDim S16384x16x1 ![0, 1] bcast_S16384x16_S16384x16x1_0_1
      (Host.reduceAdd e (constant S_ .f32 0x00000000#32) reducesTo_S16384x16x4_S16384x16_d2 h_S_)))

/-- The products down the tree: root by middle node, then by leaf. -/
def refTree (r : FVec Ideal S16384x1x4 .f32) (n : FVec Ideal S16384x4x4 .f32) (l : FVec Ideal S16384x16x4 .f32) :
    FVec Ideal S16384x64 .f32 :=
  let q : FVec Ideal S16384x4x4 .f32 := mulf (broadcastInDim S16384x4x4 ![0, 1, 2] bcast_S16384x4x1_S16384x4x4_0_1_2
    (broadcastInDim S16384x4x1 ![0, 1] bcast_S16384x4_S16384x4x1_0_1 (shapeCast S16384x4 r shapeCasts_S16384x1x4_S16384x4))) n
  shapeCast S16384x64 (mulf (broadcastInDim S16384x16x4 ![0, 1, 2] bcast_S16384x16x1_S16384x16x4_0_1_2
    (broadcastInDim S16384x16x1 ![0, 1] bcast_S16384x16_S16384x16x1_0_1
      (shapeCast S16384x16 q shapeCasts_S16384x4x4_S16384x16))) l) shapeCasts_S16384x16x4_S16384x64

/-- The reference's result is its stages composed. -/
theorem reference_stages (m : (ℓ : Loc nD τ sig) → Buf (Elt Ideal) ℓ) (c : Dev nD) :
    Value.res_out0 m c
      = refTree
          (refRootSoft (refRootPower (m ((c.tc : Thread nD τ).loc main_arg0))
            (refRootWeights (m ((c.tc : Thread nD τ).loc main_arg1)))))
          (refMidSoft (refMidPower (m ((c.tc : Thread nD τ).loc main_arg0))
            (refMidWeights (m ((c.tc : Thread nD τ).loc main_arg2)))))
          (refLeafSoft (shapeCast S16384x16x4 (refLeafPower (m ((c.tc : Thread nD τ).loc main_arg0)))
            shapeCasts_S16384x64_S16384x16x4)) := by
  unfold Value.res_out0 Value.res_main_v85
  rfl

end Cert.Beam

end
-- ==== Proof.ReferencePower.lean ====
/- The reference's powers read at an index: each is the power of one of the tree's beams. -/
module

public import proofs.«01_k».proof.Proof.Reference
public import proofs.«01_k».proof.Proof.Result
public import Idealize.ShloMosaic.Lib.Pointwise

@[expose] public section

set_option maxRecDepth 16384

noncomputable section

namespace Cert.Beam

open Idealize.ShloMosaic Cert.ReferenceIdeal Cert.ReferenceIdeal.Gen

/-- A pair of weight rows gives a beam's power when the rows hold the beam's weights, the first the real part's and the
    second the imaginary part's. -/
theorem power_of_rows (x f g : Fin 128 → EReal) (c s : Fin 64 → EReal)
    (h : ∀ a, f (lo a) = c a ∧ f (hi a) = -s a
      ∧ g (lo a) = s a ∧ g (hi a) = c a) :
    (∑ d, x d * f d) * (∑ d, x d * f d) + (∑ d, x d * g d) * (∑ d, x d * g d) = power x c s := by
  simp only [sum_halves, fun a => (h a).1, fun a => (h a).2.1, fun a => (h a).2.2.1, fun a => (h a).2.2.2]
  rfl

variable (t0 : FVec Ideal S1x4x64 .f32) (t1 : FVec Ideal S4x4x64 .f32) (x : FVec Ideal S16384x128 .f32)

/-- The powers of the root's beams are the powers of beams 64 to 67. -/
theorem refRootPower_apply (n : Fin 16384) (k : Fin 4) :
    refRootPower x (refRootWeights t0) (ix3 n 0 k)
      = power (fun d => x (ix2 n d)) (weightRe t0 t1 (64 + k)) (weightIm t0 t1 (64 + k)) := by
  pointwise [refRootPower]
  refine power_of_rows _ _ _ _ _ fun a => ?_
  have e : angle t0 t1 k a = t0 (ix3 0 k a) := dif_pos k.2
  have er : weightRe t0 t1 (64 + k) a = Ideal.cos (t0 (ix3 0 k a)) * Ideal.ofBits .f32 0x3E000000#32 := by
    rw [weightRe, if_neg (by omega), if_pos (by omega), Nat.add_sub_cancel_left, e]
  have ei : weightIm t0 t1 (64 + k) a = Ideal.sin (t0 (ix3 0 k a)) * Ideal.ofBits .f32 0x3E000000#32 := by
    rw [weightIm, if_neg (by omega), if_pos (by omega), Nat.add_sub_cancel_left, e]
  rw [er, ei, ← eighth, ← eighth]
  refine ⟨?_, ?_, ?_, ?_⟩
  · pointwise [refRootWeights]
  · pointwise [refRootWeights]
  · pointwise [refRootWeights]
  · pointwise [refRootWeights]

/-- The powers of middle node `i`'s beams are the powers of beams `68 + 4 i` on. -/
theorem refMidPower_apply (n : Fin 16384) (i k : Fin 4) :
    refMidPower x (refMidWeights t1) (ix3 n i k)
      = power (fun d => x (ix2 n d)) (weightRe t0 t1 (68 + 4 * i + k)) (weightIm t0 t1 (68 + 4 * i + k)) := by
  pointwise [refMidPower]
  refine power_of_rows _ _ _ _ _ fun a => ?_
  have e : angle t0 t1 (4 + 4 * i + k) a = t1 (ix3 i k a) := by
    rw [angle, dif_neg (by omega)]
    congr 2
    · exact Fin.ext (by simp; omega)
    · exact Fin.ext (by simp; omega)
  have er : weightRe t0 t1 (68 + 4 * i + k) a = Ideal.cos (t1 (ix3 i k a)) * Ideal.ofBits .f32 0x3E000000#32 := by
    rw [weightRe, if_neg (by omega), if_pos (by omega), ← e]
    congr 3; omega
  have ei : weightIm t0 t1 (68 + 4 * i + k) a = Ideal.sin (t1 (ix3 i k a)) * Ideal.ofBits .f32 0x3E000000#32 := by
    rw [weightIm, if_neg (by omega), if_pos (by omega), ← e]
    congr 3; omega
  rw [er, ei, ← eighth, ← eighth]
  refine ⟨?_, ?_, ?_, ?_⟩
  · pointwise [refMidWeights]
  · pointwise [refMidWeights]
  · pointwise [refMidWeights]
  · pointwise [refMidWeights]

theorem refRe_apply (a j : Fin 64) : refRe (ix2 a j) = weightRe t0 t1 j a := by
  have e : (S64x64.rowMajor (ix2 a j)).val = 64 * a + j := by
    rw [Shape.rowMajor_val_two]; simp; omega
  rw [← codeRe t0 t1 a j, (codebook a j).1]
  show Ideal.ofBits .f32 (lit0t (S64x64.rowMajor (ix2 a j)).val) = _
  rw [e]

theorem refIm_apply (a j : Fin 64) : refIm (ix2 a j) = weightIm t0 t1 j a := by
  have e : (S64x64.rowMajor (ix2 a j)).val = 64 * a + j := by
    rw [Shape.rowMajor_val_two]; simp; omega
  rw [← codeIm t0 t1 a j, (codebook a j).2.1]
  show Ideal.ofBits .f32 (lit1t (S64x64.rowMajor (ix2 a j)).val) = _
  rw [e]

/-- The powers of the leaves' beams are the powers of beams 0 to 63, four to a group. -/
theorem refLeafPower_apply (n : Fin 16384) (i : Fin 16) (k : Fin 4) :
    shapeCast S16384x16x4 (refLeafPower x) shapeCasts_S16384x64_S16384x16x4 (ix3 n i k)
      = power (fun d => x (ix2 n d)) (weightRe t0 t1 (4 * i + k)) (weightIm t0 t1 (4 * i + k)) := by
  pointwise [refLeafPower]
  simp only [refRe_apply t0 t1, refIm_apply t0 t1]
  rw [← power_sub, Nat.mul_comm 4]
  rfl

end Cert.Beam

end
-- ==== Proof.ReferenceSoft.lean ====
/- The reference's softmaxes read at an index: each is the softmax of four values. -/
module

public import proofs.«01_k».proof.Proof.Reference
public import proofs.«01_k».proof.Proof.Softmax
public import proofs.«01_k».proof.Proof.Words
public import Idealize.ShloMosaic.Lib.Pointwise

@[expose] public section

set_option maxRecDepth 16384

noncomputable section

namespace Cert.Beam

open Idealize.ShloMosaic Cert.ReferenceIdeal Cert.ReferenceIdeal.Gen

/-- The root's softmax at an index. -/
theorem refRootSoft_apply (p : FVec Ideal S16384x1x4 .f32) (q : Nat → EReal) (n : Fin 16384)
    (hq : ∀ k : Fin 4, p (ix3 n 0 k) = q k) (k : Fin 4) : refRootSoft p (ix3 n 0 k) = soft q k := by
  pointwise [refRootSoft]
  simp only [hq, ofBits_bot, bot_le, max_eq_right]
  rfl

/-- A middle node's softmax at an index. -/
theorem refMidSoft_apply (p : FVec Ideal S16384x4x4 .f32) (q : Nat → EReal) (n : Fin 16384) (i : Fin 4)
    (hq : ∀ k : Fin 4, p (ix3 n i k) = q k) (k : Fin 4) : refMidSoft p (ix3 n i k) = soft q k := by
  pointwise [refMidSoft]
  simp only [hq, ofBits_bot, bot_le, max_eq_right]
  rfl

/-- A group of leaves' softmax at an index. -/
theorem refLeafSoft_apply (p : FVec Ideal S16384x16x4 .f32) (q : Nat → EReal) (n : Fin 16384) (i : Fin 16)
    (hq : ∀ k : Fin 4, p (ix3 n i k) = q k) (k : Fin 4) : refLeafSoft p (ix3 n i k) = soft q k := by
  pointwise [refLeafSoft]
  simp only [hq, ofBits_bot, bot_le, max_eq_right]
  rfl

end Cert.Beam

end
-- ==== Proof.ReferenceRow.lean ====
/- The reference's result: the product down the tree of the softmaxes of the tree's powers. -/
module

public import proofs.«01_k».proof.Proof.ReferencePower
public import proofs.«01_k».proof.Proof.ReferenceSoft
public import proofs.«01_k».proof.Proof.Result
public import Idealize.ShloMosaic.Lib.Pointwise

@[expose] public section

set_option maxRecDepth 16384

noncomputable section

namespace Cert.Beam

open Idealize.ShloMosaic Cert.ReferenceIdeal Cert.ReferenceIdeal.Gen

variable (t0 : FVec Ideal S1x4x64 .f32) (t1 : FVec Ideal S4x4x64 .f32) (x : FVec Ideal S16384x128 .f32)

/-- THE REFERENCE'S RESULT. -/
theorem reference_result :
    refTree (refRootSoft (refRootPower x (refRootWeights t0))) (refMidSoft (refMidPower x (refMidWeights t1)))
      (refLeafSoft (shapeCast S16384x16x4 (refLeafPower x) shapeCasts_S16384x64_S16384x16x4)) = result x t0 t1 := by
  funext y
  idx_vars y
  pointwise [refTree]
  have eP : ∃ P : Nat → EReal, P = fun j => power (fun d => x (ix2 y0 d)) (weightRe t0 t1 j) (weightIm t0 t1 j) := ⟨_, rfl⟩
  obtain ⟨P, hP⟩ := eP
  have hr : ∀ k : Fin 4, refRootPower x (refRootWeights t0) (ix3 y0 0 k) = P (64 + k) := fun k => by
    rw [hP]; exact refRootPower_apply t0 t1 x y0 k
  have hm : ∀ i k : Fin 4, refMidPower x (refMidWeights t1) (ix3 y0 i k) = P (68 + 4 * i + k) := fun i k => by
    rw [hP]; exact refMidPower_apply t0 t1 x y0 i k
  have hl : ∀ (i : Fin 16) (k : Fin 4), shapeCast S16384x16x4 (refLeafPower x) shapeCasts_S16384x64_S16384x16x4 (ix3 y0 i k)
      = P (4 * i + k) := fun i k => by
    rw [hP]; exact refLeafPower_apply t0 t1 x y0 i k
  rw [refRootSoft_apply _ (fun k => P (64 + k)) y0 hr,
    refMidSoft_apply _ (fun k => P (68 + 4 * (y1 / 4 / 4) + k)) y0 _ (hm _),
    refLeafSoft_apply _ (fun k => P (4 * (y1 / 4) + k)) y0 _ (hl _)]
  have hres : result x t0 t1 (ix2 y0 y1) = probability P y1 := by rw [hP]; rfl
  have e : (y1 : Nat) / 4 / 4 = y1 / 16 := by omega
  rw [hres, probability]
  show soft (fun k => P (64 + k)) ((y1 : Nat) / 4 / 4) * soft (fun k => P (68 + 4 * ((y1 : Nat) / 4 / 4) + k)) ((y1 : Nat) / 4 % 4)
    * soft (fun k => P (4 * ((y1 : Nat) / 4) + k)) ((y1 : Nat) % 4) = _
  rw [e]

end Cert.Beam

end
-- ==== Proof.Phases.lean ====
/- What the precondition says over the extended reals: every phase of the middle nodes is a real number. -/
module

public import proofs.«01_k».proof.Proof.Beams
public import Idealize.ShloMosaic.Lib.ReduceAll

@[expose] public section

set_option maxRecDepth 16384

noncomputable section

namespace Cert.Beam

open Idealize.ShloMosaic

/-- The side conditions of the precondition's own operations. -/
theorem theta1_facts : Cert.Pre_theta1_finite.Facts where
  h_S_ := by decide
  bcast_S_S4x4x64 := by decide
  reducesTo_S4x4x64_S_d0_1_2 := by decide

/-- The bound of the precondition's comparison is infinity. -/
theorem ofBits_top : Ideal.ofBits .f32 0x7F800000#32 = ⊤ := by
  simp [Ideal.ofBits, Ideal.ieee]

/-- A value whose absolute value is below infinity is a real number. -/
theorem fin_of_abs_lt {a : EReal} (h : Ideal.cmp .olt (max a (-a)) (Ideal.ofBits .f32 0x7F800000#32) = 1#1) : Fin' a := by
  rw [ofBits_top] at h
  have hlt : max a (-a) < ⊤ := by
    by_contra hn
    simp [Ideal.cmp, hn] at h
  rw [max_lt_iff] at hlt
  refine ⟨hlt.1.ne, fun hb => ?_⟩
  rw [hb] at hlt
  exact absurd hlt.2 (by simp)

instance : Subsingleton Pre_theta1_finite.S_.Idx := ⟨fun a b => funext fun i => i.elim0⟩

/-- THE PRECONDITION READ BACK: every phase of the middle nodes is finite. -/
theorem theta1_fin (x : FVec Ideal KernelIdeal.S16384x128 .f32) (t0 : FVec Ideal KernelIdeal.S1x4x64 .f32)
    (t1 : FVec Ideal KernelIdeal.S4x4x64 .f32) (e : Pre_theta1_finite.S_.Idx)
    (h : @Cert.Pre_theta1_finite.fn theta1_facts Ideal _ x t0 t1 e = 1#1) (i : KernelIdeal.S4x4x64.Idx) : Fin' (t1 i) := by
  dsimp only [Cert.Pre_theta1_finite.fn] at h
  exact fin_of_abs_lt (Host.reduce_andi_all _ _ _ _ e h i)

end Cert.Beam

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelArray
public import proofs.«01_k».proof.Proof.ReferenceRow
public import proofs.«01_k».proof.Proof.Phases
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they were, and it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The same under the precondition. -/
theorem frame_reference_pre : Cert.quiescent_ReferenceIdeal_pre_theta1_finite
    (hReferenceIdeal := Cert.ReferenceIdeal.Gen.facts) (hPre_theta1_finite := Cert.Beam.theta1_facts) := fun m g _ =>
  frame_reference m g trivial

/-- THE VALUE CLAIM: both programs compute `Beam.result`. -/
theorem algebraic : Cert.algebraic_KernelIdeal_ReferenceIdeal_pre_theta1_finite (hKernelIdeal := Cert.KernelIdeal.Gen.facts)
    (hReferenceIdeal := Cert.ReferenceIdeal.Gen.facts) (hPre_theta1_finite := Cert.Beam.theta1_facts) := by
  intro m g m' g' hpre hagree
  have hfin := fun (c : Dev Cert.KernelIdeal.nD) i =>
    Cert.Beam.theta1_fin _ _ _ (fun i => i.elim0) (congrFun (hpre c) (fun i => i.elim0)) i
  refine ⟨fun c => Cert.Beam.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Beam.kernel_array m c (hfin c)), (h c).2⟩) (Cert.KernelIdeal.Value.run_blocks m g)
  · refine (θ_run Cert.ReferenceIdeal.defs _ _).mono (fun r h c => ⟨(h c).1.trans ?_, (h c).2⟩)
      (Cert.ReferenceIdeal.Value.run m' g')
    refine (Cert.Beam.reference_stages m' c).trans ?_
    obtain ⟨e0, e1, e2⟩ := hagree c
    rw [e0, e1, e2]
    exact Cert.Beam.reference_result _ _ _

theorem claim : Cert.Claim :=
  ⟨Cert.Kernel.Gen.facts, Cert.KernelIdeal.Gen.facts, Cert.ReferenceIdeal.Gen.facts, Cert.Beam.theta1_facts,
    fun m g _ => Cert.Kernel.Gen.frame m g, fun m g _ => Cert.KernelIdeal.Gen.frame m g,
    fun m g _ => Cert.KernelIdeal.Gen.frame m g, frame_reference, frame_reference_pre, trivial, algebraic⟩

end Cert.Proof

end
